-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x32 : Shape := ⟨3, ![64, 256, 32]⟩
abbrev S64x256x256 : Shape := ⟨3, ![64, 256, 256]⟩
abbrev S288x512 : Shape := ⟨2, ![288, 512]⟩
abbrev S512 : Shape := ⟨1, ![512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1024x16 : Shape := ⟨2, ![1024, 16]⟩
abbrev S16384x32 : Shape := ⟨2, ![16384, 32]⟩
abbrev S16384x256 : Shape := ⟨2, ![16384, 256]⟩
abbrev S1x512 : Shape := ⟨2, ![1, 512]⟩
abbrev S1x256 : Shape := ⟨2, ![1, 256]⟩
abbrev S1x16 : Shape := ⟨2, ![1, 16]⟩
abbrev S16384x16 : Shape := ⟨2, ![16384, 16]⟩
abbrev S16384x1 : Shape := ⟨2, ![16384, 1]⟩
abbrev S1x1 : Shape := ⟨2, ![1, 1]⟩
abbrev S64x256x16 : Shape := ⟨3, ![64, 256, 16]⟩
abbrev S64x256x1 : Shape := ⟨3, ![64, 256, 1]⟩
abbrev S_ : Shape := ⟨0, ![]⟩
abbrev S1024x32 : Shape := ⟨2, ![1024, 32]⟩
abbrev S1024x256 : Shape := ⟨2, ![1024, 256]⟩
abbrev S1024x1 : Shape := ⟨2, ![1024, 1]⟩
abbrev S256x1024 : Shape := ⟨2, ![256, 1024]⟩
abbrev S1024 : Shape := ⟨1, ![1024]⟩
abbrev S1024x288 : Shape := ⟨2, ![1024, 288]⟩
abbrev S1024x512 : Shape := ⟨2, ![1024, 512]⟩
abbrev S1024x1024 : Shape := ⟨2, ![1024, 1024]⟩
abbrev S8x1024 : Shape := ⟨2, ![8, 1024]⟩
abbrev S1x1024 : Shape := ⟨2, ![1, 1024]⟩
abbrev S4x256x1024 : Shape := ⟨3, ![4, 256, 1024]⟩
abbrev S1x1024x16 : Shape := ⟨3, ![1, 1024, 16]⟩
abbrev S1 : Shape := ⟨1, ![1]⟩
abbrev S1x1x1 : Shape := ⟨3, ![1, 1, 1]⟩

abbrev nBuf : Space → Nat
  | .hbm => 24
  | .vmem => 20
  | .smem => 1
  | _ => 0

abbrev bufTy : (tb : Table) → Fin (tcTables nBuf tb) → BufTy
  | .hbm, ⟨0, _⟩ => ⟨S64x256x32, .f32⟩
  | .hbm, ⟨1, _⟩ => ⟨S64x256x256, .f32⟩
  | .hbm, ⟨2, _⟩ => ⟨S288x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x16, .f32⟩
  | .hbm, ⟨7, _⟩ => ⟨S16, .f32⟩
  | .hbm, ⟨8, _⟩ => ⟨S1024x16, .f32⟩
  | .hbm, ⟨9, _⟩ => ⟨S16384x32, .f32⟩
  | .hbm, ⟨10, _⟩ => ⟨S16384x256, .f32⟩
  | .hbm, ⟨11, _⟩ => ⟨S1x512, .f32⟩
  | .hbm, ⟨12, _⟩ => ⟨S1x256, .f32⟩
  | .hbm, ⟨13, _⟩ => ⟨S1x16, .f32⟩
  | .hbm, ⟨14, _⟩ => ⟨S16384x16, .f32⟩
  | .hbm, ⟨15, _⟩ => ⟨S16384x1, .i32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S64x256x16, .f32⟩
  | .hbm, ⟨20, _⟩ => ⟨S64x256x1, .i32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x32, .f32⟩
  | .local _ .vmem, ⟨1, _⟩ => ⟨S1024x32, .f32⟩
  | .local _ .vmem, ⟨2, _⟩ => ⟨S1024x256, .f32⟩
  | .local _ .vmem, ⟨3, _⟩ => ⟨S1024x256, .f32⟩
  | .local _ .vmem, ⟨4, _⟩ => ⟨S288x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S256x16, .f32⟩
  | .local _ .vmem, ⟨9, _⟩ => ⟨S1x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x1, .i32⟩
  | .local _ .vmem, ⟨14, _⟩ => ⟨S1024x1, .i32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1024x16, .f32⟩
  | .local _ .vmem, ⟨19, _⟩ => ⟨S256x1024, .f32⟩
  | .local _ .smem, ⟨0, _⟩ => ⟨S1x1, .f32⟩
  | _, _ => ⟨S64x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5_0 : Ref sig .tc := ⟨.hbm, 14, rfl⟩
abbrev main_call0_v5_1 : Ref sig .tc := ⟨.hbm, 15, rfl⟩
abbrev main_call0_v5_2 : Ref sig .tc := ⟨.hbm, 16, rfl⟩
abbrev main_call0_v5_3 : Ref sig .tc := ⟨.hbm, 17, rfl⟩
abbrev main_call0_v5_4 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_49 : BitVec 32 := 0#32
  let v99 : BitVec 1 := Scalar.cmpi .ne v98 c0_i32_49
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S288x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S64x256x32 : Shape := ⟨3, ![64, 256, 32]⟩
abbrev S64x256x256 : Shape := ⟨3, ![64, 256, 256]⟩
abbrev S288x512 : Shape := ⟨2, ![288, 512]⟩
abbrev S512 : Shape := ⟨1, ![512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1024x16 : Shape := ⟨2, ![1024, 16]⟩
abbrev S64x256x288 : Shape := ⟨3, ![64, 256, 288]⟩
abbrev S64x256x512 : Shape := ⟨3, ![64, 256, 512]⟩
abbrev S1x1x512 : Shape := ⟨3, ![1, 1, 512]⟩
abbrev S_ : Shape := ⟨0, ![]⟩
abbrev S1x1x256 : Shape := ⟨3, ![1, 1, 256]⟩
abbrev S64x256x16 : Shape := ⟨3, ![64, 256, 16]⟩
abbrev S1x1x16 : Shape := ⟨3, ![1, 1, 16]⟩
abbrev S64x256 : Shape := ⟨2, ![64, 256]⟩
abbrev S64x256x1 : Shape := ⟨3, ![64, 256, 1]⟩
abbrev S1024 : Shape := ⟨1, ![1024]⟩
abbrev S1024x1 : Shape := ⟨2, ![1024, 1]⟩
abbrev S64x256x1024 : Shape := ⟨3, ![64, 256, 1024]⟩
abbrev S16384x1024 : Shape := ⟨2, ![16384, 1024]⟩
abbrev S16384 : Shape := ⟨1, ![16384]⟩
abbrev S16384x1 : Shape := ⟨2, ![16384, 1]⟩
abbrev S1x1024 : Shape := ⟨2, ![1, 1024]⟩
abbrev S16384x16 : Shape := ⟨2, ![16384, 16]⟩
abbrev S256x1024 : Shape := ⟨2, ![256, 1024]⟩

abbrev nBuf : Space → Nat
  | .hbm => 99
  | .vmem => 0
  | .smem => 0
  | _ => 0

abbrev bufTy : (tb : Table) → Fin (tcTables nBuf tb) → BufTy
  | .hbm, ⟨0, _⟩ => ⟨S64x256x32, .f32⟩
  | .hbm, ⟨1, _⟩ => ⟨S64x256x256, .f32⟩
  | .hbm, ⟨2, _⟩ => ⟨S288x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x16, .f32⟩
  | .hbm, ⟨7, _⟩ => ⟨S16, .f32⟩
  | .hbm, ⟨8, _⟩ => ⟨S1024x16, .f32⟩
  | .hbm, ⟨9, _⟩ => ⟨S64x256x288, .f32⟩
  | .hbm, ⟨10, _⟩ => ⟨S64x256x512, .f32⟩
  | .hbm, ⟨11, _⟩ => ⟨S1x1x512, .f32⟩
  | .hbm, ⟨12, _⟩ => ⟨S64x256x512, .f32⟩
  | .hbm, ⟨13, _⟩ => ⟨S64x256x512, .f32⟩
  | .hbm, ⟨14, _⟩ => ⟨S_, .f32⟩
  | .hbm, ⟨15, _⟩ => ⟨S64x256x512, .f32⟩
  | .hbm, ⟨16, _⟩ => ⟨S64x256x512, .i1⟩
  | .hbm, ⟨17, _⟩ => ⟨S64x256x512, .f32⟩
  | .hbm, ⟨18, _⟩ => ⟨S64x256x512, .f32⟩
  | .hbm, ⟨19, _⟩ => ⟨S64x256x256, .f32⟩
  | .hbm, ⟨20, _⟩ => ⟨S1x1x256, .f32⟩
  | .hbm, ⟨21, _⟩ => ⟨S64x256x256, .f32⟩
  | .hbm, ⟨22, _⟩ => ⟨S64x256x256, .f32⟩
  | .hbm, ⟨23, _⟩ => ⟨S_, .f32⟩
  | .hbm, ⟨24, _⟩ => ⟨S64x256x256, .f32⟩
  | .hbm, ⟨25, _⟩ => ⟨S64x256x256, .i1⟩
  | .hbm, ⟨26, _⟩ => ⟨S64x256x256, .f32⟩
  | .hbm, ⟨27, _⟩ => ⟨S64x256x256, .f32⟩
  | .hbm, ⟨28, _⟩ => ⟨S64x256x16, .f32⟩
  | .hbm, ⟨29, _⟩ => ⟨S1x1x16, .f32⟩
  | .hbm, ⟨30, _⟩ => ⟨S64x256x16, .f32⟩
  | .hbm, ⟨31, _⟩ => ⟨S64x256x16, .f32⟩
  | .hbm, ⟨32, _⟩ => ⟨S64x256x16, .f32⟩
  | .hbm, ⟨33, _⟩ => ⟨S_, .f32⟩
  | .hbm, ⟨34, _⟩ => ⟨S64x256, .f32⟩
  | .hbm, ⟨35, _⟩ => ⟨S64x256x1, .f32⟩
  | .hbm, ⟨36, _⟩ => ⟨S64x256x1, .f32⟩
  | .hbm, ⟨37, _⟩ => ⟨S_, .f32⟩
  | .hbm, ⟨38, _⟩ => ⟨S64x256x1, .f32⟩
  | .hbm, ⟨39, _⟩ => ⟨S64x256x1, .f32⟩
  | .hbm, ⟨40, _⟩ => ⟨S64x256x16, .f32⟩
  | .hbm, ⟨41, _⟩ => ⟨S64x256x16, .f32⟩
  | .hbm, ⟨42, _⟩ => ⟨S1024x16, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x16, .f32⟩
  | .hbm, ⟨51, _⟩ => ⟨S1024x16, .f32⟩
  | .hbm, ⟨52, _⟩ => ⟨S64x256x1024, .f32⟩
  | .hbm, ⟨53, _⟩ => ⟨S16384x1024, .f32⟩
  | .hbm, ⟨54, _⟩ => ⟨S16384x1024, .i32⟩
  | .hbm, ⟨55, _⟩ => ⟨S_, .f32⟩
  | .hbm, ⟨56, _⟩ => ⟨S_, .i32⟩
  | .hbm, ⟨57, _⟩ => ⟨S16384, .f32⟩
  | .hbm, ⟨58, _⟩ => ⟨S16384, .i32⟩
  | .hbm, ⟨59, _⟩ => ⟨S16384x1, .i32⟩
  | .hbm, ⟨60, _⟩ => ⟨S1x1024, .i32⟩
  | .hbm, ⟨61, _⟩ => ⟨S16384x1024, .i32⟩
  | .hbm, ⟨62, _⟩ => ⟨S16384x1024, .i32⟩
  | .hbm, ⟨63, _⟩ => ⟨S16384x1024, .i1⟩
  | .hbm, ⟨64, _⟩ => ⟨S16384x1024, .f32⟩
  | .hbm, ⟨65, _⟩ => ⟨S16384x16, .f32⟩
  | .hbm, ⟨66, _⟩ => ⟨S64x256x16, .f32⟩
  | .hbm, ⟨67, _⟩ => ⟨S64x256x16, .f32⟩
  | .hbm, ⟨68, _⟩ => ⟨S64x256x16, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S64x256x16, .f32⟩
  | .hbm, ⟨76, _⟩ => ⟨S64x256x16, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S64x256x16, .f32⟩
  | .hbm, ⟨82, _⟩ => ⟨S64x256x16, .f32⟩
  | .hbm, ⟨83, _⟩ => ⟨S64x256x1024, .f32⟩
  | .hbm, ⟨84, _⟩ => ⟨S_, .f32⟩
  | .hbm, ⟨85, _⟩ => ⟨S256x1024, .f32⟩
  | .hbm, ⟨86, _⟩ => ⟨S_, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S256x1024, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S64x256x1, .i32⟩
  | _, _ => ⟨S64x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_call2_v2 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call3_v0 : Ref sig .tc := ⟨.hbm, 42, rfl⟩
abbrev main_call3_cst : Ref sig .tc := ⟨.hbm, 43, rfl⟩
abbrev main_call3_v1 : Ref sig .tc := ⟨.hbm, 44, rfl⟩
abbrev main_call3_v2 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call4_v0 : Ref sig .tc := ⟨.hbm, 54, rfl⟩
abbrev main_call4_cst : Ref sig .tc := ⟨.hbm, 55, rfl⟩
abbrev main_call4_c : Ref sig .tc := ⟨.hbm, 56, rfl⟩
abbrev main_call4_v1_0 : Ref sig .tc := ⟨.hbm, 57, rfl⟩
abbrev main_v33 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_cst_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_8 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_cst_10 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_11 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩

abbrev nD : Nat := 1
abbrev τ : Topo := Topo.v7x

variable {F : FTy → Type} [FloatOps F]
-- ==== Proof.Spec.lean ====
/-
  The mathematics that the kernel and the reference share, on functions of numbers: a two-layer perceptron with the
  exponential linear unit gives a row's latent; the latent and each code are divided by their norms; the code with the
  largest product, the least such on a tie, is the row's code. No tiling, no grid and no memory is mentioned here.
-/
module

public import Idealize.ShloMosaic.Lib.Pointwise

@[expose] public section

noncomputable section

namespace Cert.Proof.Spec

open Idealize.ShloMosaic

/-- The exponential linear unit. -/
def elu (x : EReal) : EReal := if 0 < x then x else Ideal.exp x - 1

/-- An affine map at one output: the row's product with one column, plus that column's bias. -/
def affine {n : Nat} (x w : Fin n → EReal) (b : EReal) : EReal := ∑ k, x k * w k + b

/-- The first layer before its activation: the input row is an action and a condition side by side, so the product has
    two parts. -/
def first (a : Fin 32 → EReal) (c : Fin 256 → EReal) (w : Fin 288 → EReal) (b : EReal) : EReal :=
  (∑ k : Fin 32, a k * w ⟨k.val, by omega⟩ + ∑ k : Fin 256, c k * w ⟨32 + k.val, by omega⟩) + b

/-- The least norm a row is divided by. -/
def tiny : EReal := Ideal.ofBits .f32 0x2B8CBCCC#32

/-- A row divided by its norm, at one coordinate. -/
def unit (x : Fin 16 → EReal) (d : Fin 16) : EReal := Ideal.div (x d) (max (Ideal.sqrt (∑ e, x e * x e)) tiny)

/-- The product of two normalised rows. -/
def score (x y : Fin 16 → EReal) : EReal := ∑ d, unit x d * unit y d

/-- `k` is the least place where `f` is largest. -/
def IsBest (f : Fin 1024 → EReal) (k : Fin 1024) : Prop := (∀ v, f v ≤ f k) ∧ ∀ v, f v = f k → k ≤ v

/-- There is a least place where `f` is largest. -/
theorem exists_isBest (f : Fin 1024 → EReal) : ∃ k, IsBest f k := by
  obtain ⟨m, -, hm⟩ := Finset.exists_max_image Finset.univ f ⟨0, Finset.mem_univ _⟩
  have hne : (Finset.univ.filter fun v => f v = f m).Nonempty := ⟨m, by simp⟩
  refine ⟨(Finset.univ.filter fun v => f v = f m).min' hne, ?_, ?_⟩
  · have h := (Finset.mem_filter.1 (Finset.min'_mem _ hne)).2
    intro v; rw [h]; exact hm v (Finset.mem_univ v)
  · have h := (Finset.mem_filter.1 (Finset.min'_mem _ hne)).2
    intro v hv
    exact Finset.min'_le _ _ (by rw [Finset.mem_filter]; exact ⟨Finset.mem_univ v, hv.trans h⟩)

/-- The least place where `f` is largest. -/
def best (f : Fin 1024 → EReal) : Fin 1024 := (exists_isBest f).choose

/-- `best` is such a place. -/
theorem best_isBest (f : Fin 1024 → EReal) : IsBest f (best f) := (exists_isBest f).choose_spec

/-- There is only one such place. -/
theorem IsBest.eq_best {f : Fin 1024 → EReal} {k : Fin 1024} (h : IsBest f k) : k = best f := by
  have hb := best_isBest f
  have e : f k = f (best f) := le_antisymm (hb.1 k) (h.1 _)
  exact le_antisymm (h.2 _ e.symm) (hb.2 _ e)

/-- One when the two codes are the same, else zero. -/
def pick (k v : Fin 1024) : EReal := if v = k then 1 else 0

/-- The weights of the perceptron and the codebook, as functions of their indices. -/
structure Weights where
  /-- the first layer's matrix -/
  w1 : Fin 288 → Fin 512 → EReal
  /-- the first layer's bias -/
  b1 : Fin 512 → EReal
  /-- the second layer's matrix -/
  w2 : Fin 512 → Fin 256 → EReal
  /-- the second layer's bias -/
  b2 : Fin 256 → EReal
  /-- the third layer's matrix -/
  w3 : Fin 256 → Fin 16 → EReal
  /-- the third layer's bias -/
  b3 : Fin 16 → EReal
  /-- the codebook -/
  book : Fin 1024 → Fin 16 → EReal

namespace Weights

variable (p : Weights) (a : Fin 32 → EReal) (c : Fin 256 → EReal)

/-- The first layer's output for an action `a` under a condition `c`. -/
def hidden1 (k : Fin 512) : EReal := elu (first a c (fun i => p.w1 i k) (p.b1 k))

/-- The second layer before its activation. -/
def pre2 (k : Fin 256) : EReal := affine (p.hidden1 a c) (fun i => p.w2 i k) (p.b2 k)

/-- The latent. -/
def latent (d : Fin 16) : EReal := affine (fun k => elu (p.pre2 a c k)) (fun i => p.w3 i d) (p.b3 d)

/-- The code: the least place of the largest product with the normalised codes. -/
def code : Fin 1024 := best fun v => score (p.latent a c) (p.book v)

/-- The quantised latent: the one-hot row of the code times the codebook. -/
def quant (d : Fin 16) : EReal := ∑ v, pick (p.code a c) v * p.book v d

/-- The straight-through latent. -/
def passed (d : Fin 16) : EReal := p.latent a c d + (p.quant a c d - p.latent a c d)

/-- The squared difference of the quantised latent from the latent, at one coordinate. -/
def err (d : Fin 16) : EReal := (p.quant a c d - p.latent a c d) * (p.quant a c d - p.latent a c d)

end Weights

/-- The mean of the squared differences from their sum. -/
def meanOf (s : EReal) : EReal := Ideal.div s (Ideal.ofBits .f32 0x48800000#32)

/-- A quarter of a number. -/
def quarterOf (s : EReal) : EReal := Ideal.ofBits .f32 0x3E800000#32 * s

/-- One term of the entropy, from a frequency. -/
def plog (x : EReal) : EReal := x * Ideal.log (x + Ideal.ofBits .f32 0x2EDBE6FF#32)

end Cert.Proof.Spec

end
-- ==== Proof.Elu.lean ====
/-
  The kernel's form of the exponential linear unit below zero, tanh(x/2) (eˣ + 1), is eˣ - 1 for every extended real.
-/
module

public import proofs.«01_k».proof.Proof.Spec

@[expose] public section

noncomputable section

namespace Cert.Proof.Spec

open Idealize.ShloMosaic

/-- Over the reals, tanh(x/2) (eˣ + 1) = eˣ - 1. -/
theorem tanh_half_mul (x : ℝ) : Real.tanh (1 / 2 * x) * (Real.exp x + 1) = Real.exp x - 1 := by
  have h1 : Real.exp x = Real.exp (1 / 2 * x) * Real.exp (1 / 2 * x) := by rw [← Real.exp_add]; ring_nf
  have h2 : Real.exp (-(1 / 2 * x)) = (Real.exp (1 / 2 * x))⁻¹ := Real.exp_neg _
  have h3 : Real.exp (1 / 2 * x) ≠ 0 := (Real.exp_pos _).ne'
  have h4 : Real.exp (1 / 2 * x) * Real.exp (1 / 2 * x) + 1 ≠ 0 := by positivity
  rw [Real.tanh_eq_sinh_div_cosh, Real.sinh_eq, Real.cosh_eq, h1, h2]
  generalize Real.exp (1 / 2 * x) = y at *
  have h5 : y + y⁻¹ ≠ 0 := by
    intro h
    apply h4
    have := congrArg (· * y) h
    simpa [add_mul, inv_mul_cancel₀ h3] using this
  field_simp

/-- The pattern of one half denotes one half. -/
theorem half_eq : Ideal.ofBits .f32 0x3F000000#32 = ((1 / 2 : ℝ) : EReal) := by
  simp [Ideal.ofBits, Ideal.ieee, -EReal.coe_mul]; norm_num

/-- The kernel's branch below zero is eˣ - 1 wherever `x` is not above zero. -/
theorem tanh_branch (x : EReal) (hx : ¬ 0 < x) :
    Ideal.tanh (Ideal.ofBits .f32 0x3F000000#32 * x) * (Ideal.exp x + 1) = Ideal.exp x - 1 := by
  rw [half_eq]
  induction x using EReal.rec with
  | bot =>
    rw [EReal.coe_mul_bot_of_pos (by norm_num)]
    show (-1 : EReal) * (0 + 1) = 0 - 1
    simp
  | top => exact absurd (EReal.zero_lt_top) hx
  | coe r =>
    rw [← EReal.coe_mul]
    show ((Real.tanh (1 / 2 * r) : ℝ) : EReal) * (((Real.exp r : ℝ) : EReal) + 1) = ((Real.exp r : ℝ) : EReal) - 1
    rw [← EReal.coe_one, ← EReal.coe_add, ← EReal.coe_mul, ← EReal.coe_sub, tanh_half_mul]

/-- The kernel's unit is the exponential linear unit. -/
theorem kernel_elu (x : EReal) :
    (if 0 < x then x else Ideal.tanh (Ideal.ofBits .f32 0x3F000000#32 * x) * (Ideal.exp x + 1)) = elu x := by
  unfold elu
  split
  · rfl
  · next h => exact tanh_branch x h

end Cert.Proof.Spec

end
-- ==== Proof.Argmax.lean ====
/-
  Two ways to the same code. The reference folds pairs (value, place), keeping the larger value and on a tie the lesser
  place; the kernel takes the largest value and then the least place that attains it. Both end at `Spec.best`.
-/
module

public import proofs.«01_k».proof.Proof.Spec
public import proofs.«01_k».proof.Proof.Gen.ReferenceIdeal
public import Idealize.ShloMosaic.Lib.Pointwise

@[expose] public section

set_option maxRecDepth 16384

noncomputable section

namespace Cert.Proof.Spec

open Idealize.ShloMosaic

/-- A place as an extended real. -/
def num (k : Fin 1024) : EReal := ((k.val : ℝ) : EReal)

/-- Different places are different numbers. -/
theorem num_inj {a b : Fin 1024} : num a = num b ↔ a = b := by
  unfold num
  rw [EReal.coe_eq_coe_iff, Nat.cast_inj, Fin.ext_iff]

/-- Places are ordered as their numbers. -/
theorem num_le {a b : Fin 1024} : num a ≤ num b ↔ a ≤ b := by
  unfold num
  rw [EReal.coe_le_coe_iff, Nat.cast_le, Fin.le_def]

/-- The pattern of minus infinity. -/
theorem negInf_eq : Ideal.ofBits .f32 0xFF800000#32 = ⊥ := by simp [Ideal.ofBits, Ideal.ieee]

/-- The pattern of plus infinity. -/
theorem posInf_eq : Ideal.ofBits .f32 0x7F800000#32 = ⊤ := by simp [Ideal.ofBits, Ideal.ieee]

/-- The pattern of 1024. -/
theorem thousand_eq : Ideal.ofBits .f32 0x44800000#32 = ((1024 : ℝ) : EReal) := by
  simp [Ideal.ofBits, Ideal.ieee, -EReal.coe_mul]; norm_num

/-- The largest value of `f` is its value at the best place. -/
theorem fold_max_eq (f : Fin 1024 → EReal) : Finset.fold max ⊥ f Finset.univ = f (best f) := by
  have hb := best_isBest f
  apply le_antisymm
  · rw [Finset.fold_max_le]; exact ⟨bot_le, fun v _ => hb.1 v⟩
  · rw [Finset.le_fold_max]; exact Or.inr ⟨best f, Finset.mem_univ _, le_rfl⟩

/-- The least place that attains the largest value, as a number, is the best place. -/
theorem fold_min_eq (f : Fin 1024 → EReal) :
    Finset.fold min ⊤ (fun v => if f v = Finset.fold max ⊥ f Finset.univ then num v else ((1024 : ℝ) : EReal)) Finset.univ
      = num (best f) := by
  rw [fold_max_eq]
  have hb := best_isBest f
  apply le_antisymm
  · rw [Finset.fold_min_le]; exact Or.inr ⟨best f, Finset.mem_univ _, by rw [if_pos rfl]⟩
  · rw [Finset.le_fold_min]
    refine ⟨le_top, fun v _ => ?_⟩
    split
    · next h => exact num_le.2 (hb.2 v h)
    · unfold num
      rw [EReal.coe_le_coe_iff]
      exact_mod_cast (best f).isLt.le

/-- The number of a place's word. -/
theorem sitofp_num (k : Fin 1024) : (FloatOps.sitofp .f32 (BitVec.ofNat 32 k.val) : Ideal .f32) = num k := by
  show (((BitVec.ofNat 32 k.val).toInt : ℝ) : EReal) = ((k.val : ℝ) : EReal)
  have h := k.isLt
  have e : (BitVec.ofNat 32 k.val).toNat = k.val := by rw [BitVec.toNat_ofNat]; omega
  rw [BitVec.toInt_eq_toNat_of_lt (by omega), e]
  simp

/-- The word of a place's number. -/
theorem fptosi_num (k : Fin 1024) : FloatOps.fptosi (F := Ideal) (φ := .f32) 32 (num k) = BitVec.ofNat 32 k.val := by
  show BitVec.ofInt 32 (Ideal.toIntClamped _ _ ((k.val : ℝ) : EReal)) = _
  have h := k.isLt
  show BitVec.ofInt 32 (max _ (min _ (if (0 : ℝ) ≤ (k.val : ℝ) then ⌊(k.val : ℝ)⌋ else ⌈(k.val : ℝ)⌉))) = _
  rw [if_pos (by positivity), Int.floor_natCast, min_eq_right (by norm_num; omega), max_eq_right (by norm_num)]
  rfl

/-! ## The reference's fold -/

/-- A value with the word of its place. -/
abbrev Pair : Type := EReal × BitVec 32

/-- The reference's choice between two pairs: the larger value; on a tie the lesser place. -/
abbrev choose : Pair → Pair → Pair := Cert.ReferenceIdeal.reducer_argmax_f32_i32 (F := Ideal)

/-- The choice, read. -/
theorem choose_eq (a b : Pair) :
    choose a b = (if b.1 < a.1 then a.1 else b.1, if b.1 < a.1 ∨ (a.1 = b.1 ∧ a.2.slt b.2) then a.2 else b.2) := by
  have h1 : (FloatOps.cmpf (F := Ideal) (φ := .f32) .ogt a.1 b.1) = BitVec.ofBool (decide (b.1 < a.1)) := rfl
  have h2 : (FloatOps.cmpf (F := Ideal) (φ := .f32) .une a.1 a.1) = BitVec.ofBool (decide (a.1 ≠ a.1)) := rfl
  have h3 : (FloatOps.cmpf (F := Ideal) (φ := .f32) .oeq a.1 b.1) = BitVec.ofBool (decide (a.1 = b.1)) := rfl
  have h4 : IntOp.cmpi .slt a.2 b.2 = BitVec.ofBool (a.2.slt b.2) := rfl
  unfold choose Cert.ReferenceIdeal.reducer_argmax_f32_i32
  simp only [h1, h2, h3, h4]
  by_cases g1 : b.1 < a.1 <;> by_cases g2 : a.1 = b.1 <;> cases g3 : a.2.slt b.2 <;>
    simp [g1, g2, IntOp.ori, IntOp.andi, Scalar.select]

/-- What the fold keeps: a pair that is at least every pair met, and is one of them or the pair the fold starts from. -/
theorem fold_choose (L : List Pair) (hL : ∀ p ∈ L, p.2.toNat < 1024) :
    (L.foldl choose (⊥, 0#32) = (⊥, 0#32) ∨ L.foldl choose (⊥, 0#32) ∈ L)
      ∧ ∀ p ∈ L, p.1 ≤ (L.foldl choose (⊥, 0#32)).1
          ∧ (p.1 = (L.foldl choose (⊥, 0#32)).1 → (L.foldl choose (⊥, 0#32)).2.toNat ≤ p.2.toNat) := by
  induction L using List.reverseRecOn with
  | nil => simp
  | append_singleton L p ih =>
    obtain ⟨ih1, ih2⟩ := ih fun q hq => hL q (List.mem_append_left _ hq)
    rw [List.foldl_append, List.foldl_cons, List.foldl_nil]
    have hr : (L.foldl choose (⊥, 0#32)).2.toNat < 1024 := by
      rcases ih1 with h | h
      · rw [h]; decide
      · exact hL _ (List.mem_append_left _ h)
    have hp : p.2.toNat < 1024 := hL p (List.mem_append_right _ (List.mem_singleton.2 rfl))
    generalize L.foldl choose (⊥, 0#32) = r at *
    have hslt : r.2.slt p.2 = decide (r.2.toNat < p.2.toNat) := by
      rw [BitVec.slt, BitVec.toInt_eq_toNat_of_lt (by omega), BitVec.toInt_eq_toNat_of_lt (by omega)]
      simp
    rw [choose_eq, hslt]
    rcases lt_trichotomy p.1 r.1 with h | h | h
    · rw [if_pos h, if_pos (Or.inl h)]
      refine ⟨ih1.imp id (List.mem_append_left _), fun q hq => ?_⟩
      rcases List.mem_append.1 hq with hq | hq
      · exact ih2 q hq
      · rw [List.mem_singleton.1 hq]; exact ⟨h.le, fun e => absurd e h.ne⟩
    · rw [if_neg h.not_lt]
      by_cases g : r.2.toNat < p.2.toNat
      · rw [if_pos (Or.inr ⟨h.symm, by simpa using g⟩), h]
        refine ⟨ih1.imp id (List.mem_append_left _), fun q hq => ?_⟩
        rcases List.mem_append.1 hq with hq | hq
        · exact ih2 q hq
        · rw [List.mem_singleton.1 hq]; exact ⟨h.le, fun _ => g.le⟩
      · rw [if_neg (by simp [h.not_lt, g])]
        refine ⟨Or.inr (List.mem_append_right _ (List.mem_singleton.2 rfl)), fun q hq => ?_⟩
        rcases List.mem_append.1 hq with hq | hq
        · obtain ⟨a, b⟩ := ih2 q hq
          exact ⟨a.trans h.ge, fun e => (not_lt.1 g).trans (b (e.trans h))⟩
        · rw [List.mem_singleton.1 hq]; exact ⟨le_rfl, fun _ => le_rfl⟩
    · rw [if_neg h.not_gt, if_neg (by rintro (g | ⟨g, -⟩); exacts [h.not_gt g, h.ne g])]
      refine ⟨Or.inr (List.mem_append_right _ (List.mem_singleton.2 rfl)), fun q hq => ?_⟩
      rcases List.mem_append.1 hq with hq | hq
      · have a := (ih2 q hq).1
        exact ⟨a.trans h.le, fun e => absurd (e ▸ a : p.1 ≤ r.1) h.not_ge⟩
      · rw [List.mem_singleton.1 hq]; exact ⟨le_rfl, fun _ => le_rfl⟩

/-- Folded over the pairs of a row, in any order and with any repetition, the choice ends at the best place. -/
theorem fold_choose_best (f : Fin 1024 → EReal) (L : List Pair)
    (hL : ∀ p, p ∈ L ↔ ∃ v : Fin 1024, p = (f v, BitVec.ofNat 32 v.val)) :
    (L.foldl choose (⊥, 0#32)).2 = BitVec.ofNat 32 (best f).val := by
  have hw : ∀ v : Fin 1024, (BitVec.ofNat 32 v.val).toNat = v.val := fun v => by
    have := v.isLt
    rw [BitVec.toNat_ofNat]; omega
  obtain ⟨h1, h2⟩ := fold_choose L fun p hp => by
    obtain ⟨v, rfl⟩ := (hL p).1 hp
    show (BitVec.ofNat 32 v.val).toNat < 1024
    rw [hw]; exact v.isLt
  have key : ∃ k : Fin 1024, L.foldl choose (⊥, 0#32) = (f k, BitVec.ofNat 32 k.val) := by
    rcases h1 with h | h
    · refine ⟨0, ?_⟩
      have a := (h2 _ ((hL _).2 ⟨0, rfl⟩)).1
      rw [h] at a ⊢
      rw [show f 0 = ⊥ from le_bot_iff.1 a]; rfl
    · exact (hL _).1 h
  obtain ⟨k, hk⟩ := key
  rw [hk] at h2 ⊢
  have : IsBest f k := by
    refine ⟨fun v => (h2 _ ((hL _).2 ⟨v, rfl⟩)).1, fun v hv => ?_⟩
    have := (h2 _ ((hL _).2 ⟨v, rfl⟩)).2 hv
    rw [hw, hw] at this
    exact this
  rw [this.eq_best]

/-- The pairs the reference folds for row `n` of an `N` by `M` table are those of the row's places. -/
theorem mem_row {N M : Nat} (x : (⟨2, ![N, M]⟩ : Shape).Idx → EReal) (y : (⟨2, ![N, M]⟩ : Shape).Idx → BitVec 32)
    (h : (⟨2, ![N, M]⟩ : Shape).ReducesTo [1] ⟨1, ![N]⟩) (n : Fin N) (p : Pair) :
    p ∈ Host.argReduceFiber x y h (ix1 n) ↔ ∃ v : Fin M, p = (x (ix2 n v), y (ix2 n v)) := by
  rw [Host.argReduceFiber, List.mem_map]
  constructor
  · rintro ⟨k, hk, rfl⟩
    have hd := of_decide_eq_true (List.mem_filter.1 hk).2
    generalize (⟨2, ![N, M]⟩ : Shape).rowMajor.symm k = i at hd ⊢
    obtain ⟨q, v, rfl⟩ : ∃ (q : Fin N) (v : Fin M), i = ix2 q v := ⟨i 0, i 1, eq_ix2 i⟩
    have hq : q = n := congrFun hd 0
    subst hq
    exact ⟨v, rfl⟩
  · rintro ⟨v, rfl⟩
    refine ⟨(⟨2, ![N, M]⟩ : Shape).rowMajor (ix2 n v), List.mem_filter.2 ⟨List.mem_finRange _, ?_⟩, ?_⟩
    · rw [Equiv.symm_apply_apply]
      apply decide_eq_true
      funext b
      match b with
      | 0 => rfl
    · rw [Equiv.symm_apply_apply]

/-- The reference's arg-max of a row of an `N` by 1024 table is the best place of the row. -/
theorem argmax_row {N : Nat} {u : Shape} (x : (⟨2, ![N, 1024]⟩ : Shape).Idx → EReal) (y : (⟨2, ![N, 1024]⟩ : Shape).Idx → BitVec 32)
    (h : (⟨2, ![N, 1024]⟩ : Shape).ReducesTo [1] ⟨1, ![N]⟩) (a : u.Idx → EReal) (z : u.Idx → BitVec 32) (hu : 0 < u.numel) (n : Fin N)
    (hy : ∀ v : Fin 1024, y (ix2 n v) = BitVec.ofNat 32 v.val) (ha : ∀ i, a i = ⊥) (hz : ∀ i, z i = 0#32) :
    (Host.argReduce (F := Ideal) (φ := .f32) choose x y a z h hu (ix1 n)).2 = BitVec.ofNat 32 (best fun v => x (ix2 n v)).val := by
  rw [Ideal.argReduce_eq_reduce2, Host.reduce2_eq_foldl_fiber, ha, hz]
  refine fold_choose_best (fun v => x (ix2 n v)) _ fun p => (mem_row x y h n p).trans ?_
  simp only [hy]

end Cert.Proof.Spec

end
-- ==== Proof.KernelPay.lean ====
/-
  The kernel body's payloads read at an index: each is the row mathematics of Spec.lean on the block's rows.
-/
module

public import proofs.«01_k».proof.Proof.Elu
public import proofs.«01_k».proof.Proof.Argmax
public import proofs.«01_k».proof.Proof.Gen.KernelIdeal.Skeleton
public import Idealize.ShloMosaic.Lib.Pointwise

@[expose] public section

set_option maxRecDepth 16384

noncomputable section

namespace Cert.Proof.Kern

open Cert.KernelIdeal Cert.KernelIdeal.Gen Idealize.ShloMosaic

/-- The weights as the kernel's blocks hold them. -/
def weights (v8 : Vec Ideal S288x512 .f32) (v10 : Vec Ideal S1x512 .f32) (v24 : Vec Ideal S512x256 .f32) (v26 : Vec Ideal S1x256 .f32)
    (v40 : Vec Ideal S256x16 .f32) (v42 : Vec Ideal S1x16 .f32) (v74 : Vec Ideal S1024x16 .f32) : Spec.Weights where
  w1 i k := v8 (ix2 i k)
  b1 k := v10 (ix2 0 k)
  w2 i k := v24 (ix2 i k)
  b2 k := v26 (ix2 0 k)
  w3 i d := v40 (ix2 i d)
  b3 d := v42 (ix2 0 d)
  book v d := v74 (ix2 v d)

section Layers
variable (v3 : Vec Ideal S1024x32 .f32) (v5 : Vec Ideal S1024x256 .f32) (v8 : Vec Ideal S288x512 .f32) (v10 : Vec Ideal S1x512 .f32)
  (v24 : Vec Ideal S512x256 .f32) (v26 : Vec Ideal S1x256 .f32) (v40 : Vec Ideal S256x16 .f32) (v42 : Vec Ideal S1x16 .f32)
  (v54 v74 : Vec Ideal S1024x16 .f32)

/-- The second layer before its activation. -/
theorem pay9_apply (r : Fin 1024) (j : Fin 256) :
    k0_pay9 v3 v5 v8 v10 v24 v26 (ix2 r j)
      = (weights v8 v10 v24 v26 v40 v42 v74).pre2 (fun a => v3 (ix2 r a)) (fun a => v5 (ix2 r a)) j := by
  pointwise [k0_pay9, Spec.Weights.pre2, Spec.Weights.hidden1, weights, Spec.affine, Spec.first]
  simp only [Spec.kernel_elu]

/-- The kernel's branch of the second activation below zero. -/
theorem pay10_apply (r : Fin 1024) (j : Fin 256) :
    k0_pay10 v3 v5 v8 v10 v24 v26 (ix2 r j)
      = Ideal.tanh (Ideal.ofBits .f32 0x3F000000#32 * k0_pay9 v3 v5 v8 v10 v24 v26 (ix2 r j))
          * (Ideal.exp (k0_pay9 v3 v5 v8 v10 v24 v26 (ix2 r j)) + 1) := by
  pointwise [k0_pay10]

/-- The latent. -/
theorem pay11_apply (r : Fin 1024) (d : Fin 16) :
    k0_pay11 (k0_pay9 v3 v5 v8 v10 v24 v26) (k0_pay10 v3 v5 v8 v10 v24 v26) v40 v42 (ix2 r d)
      = (weights v8 v10 v24 v26 v40 v42 v74).latent (fun a => v3 (ix2 r a)) (fun a => v5 (ix2 r a)) d := by
  pointwise [k0_pay11, Spec.Weights.latent, Spec.affine]
  simp only [pay10_apply, Spec.kernel_elu, pay9_apply v3 v5 v8 v10 v24 v26 v40 v42 v74]
  rfl

end Layers

section Codes
variable (v29 v36 : FVec Ideal S1024x256 .f32) (v40 : Vec Ideal S256x16 .f32) (v42 : Vec Ideal S1x16 .f32) (v54 v74 : Vec Ideal S1024x16 .f32)

/-- The code of a row, as a number. -/
theorem pay13_apply (r : Fin 1024) (j : Fin 1) :
    k0_pay13 v29 v36 v40 v42 v54 (ix2 r j)
      = Spec.num (Spec.best fun v => ∑ d, Spec.unit (fun e => k0_pay11 v29 v36 v40 v42 (ix2 r e)) d * v54 (ix2 v d)) := by
  rw [← Spec.fold_min_eq]
  pointwise [k0_pay13, k0_pay12, Spec.unit, Spec.tiny]
  simp only [Spec.negInf_eq, Spec.posInf_eq, Spec.thousand_eq, Spec.sitofp_num]

/-- A row's one-hot vector. -/
theorem pay14_apply (r v : Fin 1024) :
    k0_pay14 v29 v36 v40 v42 v54 (ix2 r v)
      = Spec.pick (Spec.best fun v => ∑ d, Spec.unit (fun e => k0_pay11 v29 v36 v40 v42 (ix2 r e)) d * v54 (ix2 v d)) v := by
  pointwise [k0_pay14, k0_pay12]
  rw [pay13_apply, Spec.sitofp_num]
  simp only [Spec.num_inj]
  unfold Spec.pick
  split
  · next h =>
    rw [decide_eq_true h]
    show (((1 : ℤ) : ℝ) : EReal) = 1
    simp
  · next h =>
    rw [decide_eq_false h]
    show (((0 : ℤ) : ℝ) : EReal) = 0
    simp

/-- A row of the quantised latent. -/
theorem pay15_apply (r : Fin 1024) (d : Fin 16) :
    k0_pay15 v29 v36 v40 v42 v54 v74 (ix2 r d) = ∑ v, k0_pay14 v29 v36 v40 v42 v54 (ix2 r v) * v74 (ix2 v d) := by
  pointwise [k0_pay15]

/-- A row of the straight-through latent. -/
theorem pay16_apply (r : Fin 1024) (d : Fin 16) :
    k0_pay16 v29 v36 v40 v42 v54 v74 (ix2 r d)
      = k0_pay11 v29 v36 v40 v42 (ix2 r d) + (k0_pay15 v29 v36 v40 v42 v54 v74 (ix2 r d) - k0_pay11 v29 v36 v40 v42 (ix2 r d)) := by
  pointwise [k0_pay16]

end Codes

/-- A normalised code. -/
theorem pay7_apply (v74 : Vec Ideal S1024x16 .f32) (v : Fin 1024) (d : Fin 16) :
    k0_pay7 v74 (ix2 v d) = Spec.unit (fun e => v74 (ix2 v e)) d := by
  pointwise [k0_pay7, Spec.unit, Spec.tiny]

/-- The counts start at zero. -/
theorem pay8_apply (j : S256x1024.Idx) : k0_pay8 (F := Ideal) j = 0 := by
  pointwise [k0_pay8]

/-- The word of a number. -/
theorem pay1_apply (v68 : FVec Ideal S1024x1 .f32) (r : Fin 1024) (j : Fin 1) :
    k0_pay1 v68 (ix2 r j) = FloatOps.fptosi (F := Ideal) (φ := .f32) 32 (v68 (ix2 r j)) := by
  pointwise [k0_pay1]

/-- The counts after a block: its four sequences' one-hot rows are added. -/
theorem pay2_apply (v73 : FVec Ideal S1024x1024 .f32) (v81 : Vec Ideal S256x1024 .f32) (t : Fin 256) (v : Fin 1024) :
    k0_pay2 v73 v81 (ix2 t v) = v81 (ix2 t v) + ∑ q : Fin 4, v73 (ix2 ⟨q.val * 256 + t.val, by omega⟩ v) := by
  pointwise [k0_pay2]

/-- The sum of squared differences after a block. -/
theorem pay3_eq (v45 v75 : FVec Ideal S1024x16 .f32) (s : Elt Ideal .f32) :
    k0_pay3 v45 v75 s = s + ∑ r : Fin 1024, ∑ d : Fin 16, (v75 (ix2 r d) - v45 (ix2 r d)) * (v75 (ix2 r d) - v45 (ix2 r d)) := by
  pointwise [k0_pay3]

/-- The first loss. -/
theorem pay4_apply (s : Elt Ideal .f32) (j : S1x1.Idx) : k0_pay4 s j = Spec.meanOf s := by
  pointwise [k0_pay4, Spec.meanOf]

/-- The second loss. -/
theorem pay5_apply (s : Elt Ideal .f32) (j : S1x1.Idx) : k0_pay5 s j = Spec.quarterOf (Spec.meanOf s) := by
  pointwise [k0_pay5, k0_pay4, Spec.meanOf, Spec.quarterOf]

/-- The perplexity. -/
theorem pay6_apply (c : Vec Ideal S256x1024 .f32) (j : S1x1.Idx) :
    k0_pay6 c j = Ideal.exp (0 - ∑ v : Fin 1024, ∑ t : Fin 256, Spec.plog (c (ix2 t v) * Ideal.ofBits .f32 0x3C800000#32)) := by
  idx_vars j
  pointwise [k0_pay6, Spec.plog]

end Cert.Proof.Kern

end
-- ==== Proof.KernelEntry.lean ====
/-
  What the kernel's grid points find: the input blocks read at an index, from the arguments.
-/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proof.Kern

open Cert.KernelIdeal Cert.KernelIdeal.Gen Idealize.ShloMosaic Idealize.ShloMosaic.TcCoe

variable (m : (ℓ : Loc nD τ sig) → Buf (Elt Ideal) ℓ) (c : Dev nD)

/-- Where each window's block lies at a point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

/-- There are sixteen points. -/
theorem point_lt (t : Fin cfg0.N) : t.val < 16 := Nat.lt_of_lt_of_eq t.isLt N_0

/-- The first layer's matrix is staged whole. -/
theorem w1_block (t : Fin cfg0.N) : iblk m c 2 t = m ((c : Thread nD τ).loc main_arg2) := by
  blk_ext! [iblk, V, idx t]

/-- The second layer's matrix is staged whole. -/
theorem w2_block (t : Fin cfg0.N) : iblk m c 4 t = m ((c : Thread nD τ).loc main_arg4) := by
  blk_ext! [iblk, V, idx t]

/-- The third layer's matrix is staged whole. -/
theorem w3_block (t : Fin cfg0.N) : iblk m c 6 t = m ((c : Thread nD τ).loc main_arg6) := by
  blk_ext! [iblk, V, idx t]

/-- The codebook is staged whole. -/
theorem book_block (t : Fin cfg0.N) : iblk m c 8 t = m ((c : Thread nD τ).loc main_arg8) := by
  blk_ext! [iblk, V, idx t]

/-- The actions as the region finds them: reshaped to one row per step. -/
theorem V_v0 : V m c main_call0_v0 = shapeCast S16384x32 (m ((c : Thread nD τ).loc main_arg0)) shapeCasts_S64x256x32_S16384x32 := by
  unfold V V0
  simp only [List.flatten_cons, List.flatten_nil, List.append_nil, hostOps0, StableHlo.TRef.reshape]
  after_results
  rfl

/-- The conditions as the region finds them: reshaped to one row per step. -/
theorem V_v1 : V m c main_call0_v1 = shapeCast S16384x256 (m ((c : Thread nD τ).loc main_arg1)) shapeCasts_S64x256x256_S16384x256 := by
  unfold V V0
  simp only [List.flatten_cons, List.flatten_nil, List.append_nil, hostOps0, StableHlo.TRef.reshape]
  after_results
  rfl

/-- The first bias as the region finds it: reshaped to one row. -/
theorem V_v2 : V m c main_call0_v2 = shapeCast S1x512 (m ((c : Thread nD τ).loc main_arg3)) shapeCasts_S512_S1x512 := by
  unfold V V0
  simp only [List.flatten_cons, List.flatten_nil, List.append_nil, hostOps0, StableHlo.TRef.reshape]
  after_results
  rfl

/-- The second bias as the region finds it: reshaped to one row. -/
theorem V_v3 : V m c main_call0_v3 = shapeCast S1x256 (m ((c : Thread nD τ).loc main_arg5)) shapeCasts_S256_S1x256 := by
  unfold V V0
  simp only [List.flatten_cons, List.flatten_nil, List.append_nil, hostOps0, StableHlo.TRef.reshape]
  after_results
  rfl

/-- The third bias as the region finds it: reshaped to one row. -/
theorem V_v4 : V m c main_call0_v4 = shapeCast S1x16 (m ((c : Thread nD τ).loc main_arg7)) shapeCasts_S16_S1x16 := by
  unfold V V0
  simp only [List.flatten_cons, List.flatten_nil, List.append_nil, hostOps0, StableHlo.TRef.reshape]
  after_results
  rfl

/-- Row `n` of the reshaped actions is step `n % 256` of sequence `n / 256`. -/
theorem rows32_apply (X : Vec Ideal S64x256x32 .f32) (n : Fin 16384) (a : Fin 32) :
    shapeCast S16384x32 X shapeCasts_S64x256x32_S16384x32 (ix2 n a) = X (ix3 ⟨n.val / 256, by omega⟩ ⟨n.val % 256, by omega⟩ a) := by
  pointwise

/-- Row `n` of the reshaped conditions is step `n % 256` of sequence `n / 256`. -/
theorem rows256_apply (X : Vec Ideal S64x256x256 .f32) (n : Fin 16384) (a : Fin 256) :
    shapeCast S16384x256 X shapeCasts_S64x256x256_S16384x256 (ix2 n a) = X (ix3 ⟨n.val / 256, by omega⟩ ⟨n.val % 256, by omega⟩ a) := by
  pointwise

/-- The first bias in its block. -/
theorem b1_block (t : Fin cfg0.N) (k : Fin 512) : iblk m c 3 t (ix2 0 k) = m ((c : Thread nD τ).loc main_arg3) (ix1 k) := by
  have h : iblk m c 3 t = V m c main_call0_v2 := by blk_ext! [iblk, idx t]
  rw [h, V_v2]
  pointwise

/-- The second bias in its block. -/
theorem b2_block (t : Fin cfg0.N) (k : Fin 256) : iblk m c 5 t (ix2 0 k) = m ((c : Thread nD τ).loc main_arg5) (ix1 k) := by
  have h : iblk m c 5 t = V m c main_call0_v3 := by blk_ext! [iblk, idx t]
  rw [h, V_v3]
  pointwise

/-- The third bias in its block. -/
theorem b3_block (t : Fin cfg0.N) (k : Fin 16) : iblk m c 7 t (ix2 0 k) = m ((c : Thread nD τ).loc main_arg7) (ix1 k) := by
  have h : iblk m c 7 t = V m c main_call0_v4 := by blk_ext! [iblk, idx t]
  rw [h, V_v4]
  pointwise

/-- Row `r` of point `t`'s block of actions is step `r % 256` of sequence `4 t + r / 256`. -/
theorem act_block (t : Fin cfg0.N) (r : Fin 1024) (a : Fin 32) : iblk m c 0 t (ix2 r a)
    = m ((c : Thread nD τ).loc main_arg0) (ix3 ⟨4 * t.val + r.val / 256, by have := point_lt t; omega⟩ ⟨r.val % 256, by omega⟩ a) := by
  have h : iblk m c 0 t (ix2 r a) = V m c main_call0_v0 (ix2 ⟨1024 * t.val + r.val, by have := point_lt t; omega⟩ a) := by
    blk_ext! [iblk, idx t]
  rw [h, V_v0, rows32_apply]
  have e : (1024 * t.val + r.val) / 256 = 4 * t.val + r.val / 256 := by omega
  have e' : (1024 * t.val + r.val) % 256 = r.val % 256 := by omega
  simp only [e, e']

/-- Row `r` of point `t`'s block of conditions is step `r % 256` of sequence `4 t + r / 256`. -/
theorem cond_block (t : Fin cfg0.N) (r : Fin 1024) (a : Fin 256) : iblk m c 1 t (ix2 r a)
    = m ((c : Thread nD τ).loc main_arg1) (ix3 ⟨4 * t.val + r.val / 256, by have := point_lt t; omega⟩ ⟨r.val % 256, by omega⟩ a) := by
  have h : iblk m c 1 t (ix2 r a) = V m c main_call0_v1 (ix2 ⟨1024 * t.val + r.val, by have := point_lt t; omega⟩ a) := by
    blk_ext! [iblk, idx t]
  rw [h, V_v1, rows256_apply]
  have e : (1024 * t.val + r.val) / 256 = 4 * t.val + r.val / 256 := by omega
  have e' : (1024 * t.val + r.val) % 256 = r.val % 256 := by omega
  simp only [e, e']

end Cert.Proof.Kern
end
-- ==== Proof.KernelBlocks.lean ====
/-
  What the kernel's grid points leave: each staged block and each scratch buffer after a point, from the arguments.
-/
module

public import proofs.«01_k».proof.Proof.KernelPay
public import proofs.«01_k».proof.Proof.KernelEntry
public import Idealize.ShloMosaic.Lib.Pipeline.ReadBack
public import Idealize.ShloMosaic.Lib.Pipeline.ValueKit.Held

@[expose] public section

set_option maxRecDepth 16384

noncomputable section

namespace Cert.Proof.Kern

open Cert.KernelIdeal Cert.KernelIdeal.Gen Idealize.ShloMosaic Idealize.ShloMosaic.TcCoe

variable (m : (ℓ : Loc nD τ sig) → Buf (Elt Ideal) ℓ) (c : Dev nD)

/-- The weights as the kernel's arguments hold them. -/
def wts : Spec.Weights where
  w1 i k := m ((c : Thread nD τ).loc main_arg2) (ix2 i k)
  b1 k := m ((c : Thread nD τ).loc main_arg3) (ix1 k)
  w2 i k := m ((c : Thread nD τ).loc main_arg4) (ix2 i k)
  b2 k := m ((c : Thread nD τ).loc main_arg5) (ix1 k)
  w3 i d := m ((c : Thread nD τ).loc main_arg6) (ix2 i d)
  b3 d := m ((c : Thread nD τ).loc main_arg7) (ix1 d)
  book v d := m ((c : Thread nD τ).loc main_arg8) (ix2 v d)

/-- The action at a step of a sequence. -/
def act (b : Fin 64) (t : Fin 256) (a : Fin 32) : EReal := m ((c : Thread nD τ).loc main_arg0) (ix3 b t a)

/-- The condition at a step of a sequence. -/
def cond (b : Fin 64) (t : Fin 256) (a : Fin 256) : EReal := m ((c : Thread nD τ).loc main_arg1) (ix3 b t a)

/-- The sequence that row `r` of point `t`'s block belongs to. -/
def seq (t : Fin cfg0.N) (r : Fin 1024) : Fin 64 := ⟨4 * t.val + r.val / 256, by have := point_lt t; omega⟩

/-- The step that row `r` of a block belongs to. -/
def pos (r : Fin 1024) : Fin 256 := ⟨r.val % 256, by omega⟩

/-- A row of the actions' block. -/
theorem act_row (t : Fin cfg0.N) (r : Fin 1024) : (fun a => iblk m c 0 t (ix2 r a)) = act m c (seq t r) (pos r) :=
  funext fun a => act_block m c t r a

/-- A row of the conditions' block. -/
theorem cond_row (t : Fin cfg0.N) (r : Fin 1024) : (fun a => iblk m c 1 t (ix2 r a)) = cond m c (seq t r) (pos r) :=
  funext fun a => cond_block m c t r a

/-- The weights' blocks hold the weights at every point. -/
theorem weights_block (t : Fin cfg0.N) :
    weights (iblk m c 2 t) (iblk m c 3 t) (iblk m c 4 t) (iblk m c 5 t) (iblk m c 6 t) (iblk m c 7 t) (iblk m c 8 t) = wts m c := by
  unfold weights wts
  congr 1
  · rw [w1_block]
  · funext k; exact b1_block m c t k
  · rw [w2_block]
  · funext k; exact b2_block m c t k
  · rw [w3_block]
  · funext k; exact b3_block m c t k
  · rw [book_block]

/-- The latents of a block's rows. -/
theorem latent_point (t : Fin cfg0.N) (r : Fin 1024) (d : Fin 16) :
    k0_pay11
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (ix2 r d)
      = (wts m c).latent (act m c (seq t r) (pos r)) (cond m c (seq t r) (pos r)) d := by
  rw [pay11_apply (v74 := iblk m c 8 t), weights_block, act_row, cond_row]

/-- The products of a row's normalised latent with the normalised codes. -/
theorem score_point (t : Fin cfg0.N) (r : Fin 1024) (v : Fin 1024) :
    (∑ d, Spec.unit (fun e => k0_pay11
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (ix2 r e)) d
        * (k0_pay7 (iblk m c 8 t)) (ix2 v d))
      = Spec.score ((wts m c).latent (act m c (seq t r) (pos r)) (cond m c (seq t r) (pos r))) ((wts m c).book v) := by
  simp only [latent_point, pay7_apply, book_block]
  rfl

/-- The one-hot rows of a block's codes. -/
theorem hot_point (t : Fin cfg0.N) (r v : Fin 1024) :
    k0_pay14
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (k0_pay7 (iblk m c 8 t)) (ix2 r v)
      = Spec.pick ((wts m c).code (act m c (seq t r) (pos r)) (cond m c (seq t r) (pos r))) v := by
  rw [pay14_apply]
  simp only [score_point]
  rfl

/-- The codes of a block's rows, as words. -/
theorem code_point (t : Fin cfg0.N) (r : Fin 1024) (j : Fin 1) :
    k0_pay1 (k0_pay13
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (k0_pay7 (iblk m c 8 t))) (ix2 r j)
      = BitVec.ofNat 32 ((wts m c).code (act m c (seq t r) (pos r)) (cond m c (seq t r) (pos r))).val := by
  rw [pay1_apply, pay13_apply, Spec.fptosi_num]
  simp only [score_point]
  rfl

/-- The quantised latents of a block's rows. -/
theorem quant_point (t : Fin cfg0.N) (r : Fin 1024) (d : Fin 16) :
    k0_pay15
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (k0_pay7 (iblk m c 8 t)) (iblk m c 8 t) (ix2 r d)
      = (wts m c).quant (act m c (seq t r) (pos r)) (cond m c (seq t r) (pos r)) d := by
  rw [pay15_apply]
  simp only [hot_point]
  rw [book_block]
  rfl

/-- The straight-through latents of a block's rows. -/
theorem passed_point (t : Fin cfg0.N) (r : Fin 1024) (d : Fin 16) :
    k0_pay16
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (k0_pay7 (iblk m c 8 t)) (iblk m c 8 t) (ix2 r d)
      = (wts m c).passed (act m c (seq t r) (pos r)) (cond m c (seq t r) (pos r)) d := by
  rw [pay16_apply, latent_point, quant_point]
  rfl

/-- What a block adds to the sum of squared differences. -/
def sqTerm (t : Fin cfg0.N) : EReal :=
  ∑ r : Fin 1024, ∑ d : Fin 16, (wts m c).err (act m c (seq t r) (pos r)) (cond m c (seq t r) (pos r)) d

/-- The sum of squared differences after a block. -/
theorem sq_point (t : Fin cfg0.N) (s : Elt Ideal .f32) :
    k0_pay3 (k0_pay11
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t))
      (k0_pay15
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (k0_pay7 (iblk m c 8 t)) (iblk m c 8 t)) s
      = s + sqTerm m c t := by
  rw [pay3_eq]
  simp only [latent_point, quant_point]
  rfl

/-- Row `256 q + s` of a block is of the block's sequence `q`. -/
theorem seq_lane (t : Fin cfg0.N) (q : Fin 4) (s : Fin 256) :
    seq t ⟨q.val * 256 + s.val, by omega⟩ = ⟨4 * t.val + q.val, by have := point_lt t; omega⟩ :=
  Fin.ext (by show 4 * t.val + (q.val * 256 + s.val) / 256 = 4 * t.val + q.val; omega)

/-- Row `256 q + s` of a block is of step `s`. -/
theorem pos_lane (q : Fin 4) (s : Fin 256) : pos ⟨q.val * 256 + s.val, by omega⟩ = s :=
  Fin.ext (by show (q.val * 256 + s.val) % 256 = s.val; omega)

/-- What a block adds to the count of code `v` at step `s`. -/
def countTerm (t : Fin cfg0.N) (s : Fin 256) (v : Fin 1024) : EReal :=
  ∑ q : Fin 4, Spec.pick ((wts m c).code (act m c ⟨4 * t.val + q.val, by have := point_lt t; omega⟩ s)
    (cond m c ⟨4 * t.val + q.val, by have := point_lt t; omega⟩ s)) v

/-- The counts after a block. -/
theorem count_point (t : Fin cfg0.N) (x : Vec Ideal S256x1024 .f32) (s : Fin 256) (v : Fin 1024) :
    k0_pay2 (k0_pay14
        (k0_pay9 (iblk m c 0 t) (iblk m c 1 t) (iblk m c 2 t) (iblk m c 3 t) (iblk m c 4 t) (iblk m c 5 t))
        (k0_pay10 (iblk m c 0 t) (iblk m c 1 t) (iblk m c 2 t) (iblk m c 3 t) (iblk m c 4 t) (iblk m c 5 t))
        (iblk m c 6 t) (iblk m c 7 t) (k0_pay7 (iblk m c 8 t))) x (ix2 s v)
      = x (ix2 s v) + countTerm m c t s v := by
  rw [pay2_apply]
  unfold countTerm
  refine congrArg (x (ix2 s v) + ·) (Finset.sum_congr rfl fun q _ => ?_)
  rw [hot_point m c t ⟨q.val * 256 + s.val, by omega⟩ v, seq_lane t q s, pos_lane q s]

/-- The normalised codebook, written at the first point, is held through the others. -/
theorem held (t : Fin cfg0.N) : (outsAt0 m c t.val t.isLt).2.2.2.2.2.1 = k0_pay7 (m ((c : Thread nD τ).loc main_arg8)) := by
  refine Pipeline.eq_of_write_hold (fun n h => (outsAt0 m c n h).2.2.2.2.2.1) 16 (fun _ => k0_pay7 (m ((c : Thread nD τ).loc main_arg8)))
    (fun t h0 => ?_) (fun t h0 => ?_) t
  · have h1 : ¬t.val % 16 = 15 := by omega
    rw [outsAt0_A m c t h0 h1]
    frame_out
    rw [book_block]
  · by_cases h1 : t.val % 16 = 15
    · rw [outsAt0_C m c t h0 h1]
      dsimp only [sout0_C_0]
    · rw [outsAt0_B m c t h0 h1]
      dsimp only [sout0_B_0]

/-- What the scratch buffer of the normalised codebook holds when a later point reads it. -/
theorem held_before (t : Fin cfg0.N) : (outsAt0 m c (t.val - 1) (Nat.lt_of_le_of_lt (Nat.sub_le _ _) t.isLt)).2.2.2.2.2.1
    = k0_pay7 (iblk m c 8 t) := by
  rw [book_block]
  exact held m c ⟨t.val - 1, Nat.lt_of_le_of_lt (Nat.sub_le _ _) t.isLt⟩

/-- The block of straight-through latents a point leaves. -/
theorem passed_block (t : Fin cfg0.N) (r : Fin 1024) (d : Fin 16) :
    (outsAt0 m c t.val t.isLt).1 (ix2 r d) = (wts m c).passed (act m c (seq t r) (pos r)) (cond m c (seq t r) (pos r)) d := by
  rw [← passed_point]
  by_cases h0 : t.val % 16 = 0
  · rw [outsAt0_A m c t h0 (by omega)]
    frame_out
  · by_cases h1 : t.val % 16 = 15
    · rw [outsAt0_C m c t h0 h1]
      frame_out
      simp only [read_unread_whole, held_before]
    · rw [outsAt0_B m c t h0 h1]
      frame_out
      simp only [read_unread_whole, held_before]

/-- The block of codes a point leaves. -/
theorem code_block (t : Fin cfg0.N) (r : Fin 1024) (j : Fin 1) :
    (outsAt0 m c t.val t.isLt).2.1 (ix2 r j) = BitVec.ofNat 32 ((wts m c).code (act m c (seq t r) (pos r)) (cond m c (seq t r) (pos r))).val := by
  rw [← code_point m c t r j]
  by_cases h0 : t.val % 16 = 0
  · rw [outsAt0_A m c t h0 (by omega)]
    frame_out
  · by_cases h1 : t.val % 16 = 15
    · rw [outsAt0_C m c t h0 h1]
      frame_out
      simp only [read_unread_whole, held_before]
    · rw [outsAt0_B m c t h0 h1]
      frame_out
      simp only [read_unread_whole, held_before]

/-- The counts after the last point: every block's. -/
theorem counts_last (s : Fin 256) (v : Fin 1024) :
    (outsAt0 m c t0_15.val t0_15.isLt).2.2.2.2.2.2.1 (ix2 s v) = ∑ t : Fin cfg0.N, countTerm m c t s v := by
  rw [Pipeline.eq_sum_fin_of_reset_step_apply_last (fun n h => fun j : S256x1024.Idx => (outsAt0 m c n h).2.2.2.2.2.2.1 j) 16
    (fun _ => 0) (fun t j => countTerm m c t (j 0) (j 1)) (fun t h0 j => ?_) (fun t h0 j => ?_) (le_of_eq N_0) t0_15 rfl (ix2 s v)]
  · exact zero_add _
  · idx_vars j
    rw [outsAt0_A m c t h0 (by omega)]
    frame_out
    rw [count_point, pay8_apply]
  · idx_vars j
    by_cases h1 : t.val % 16 = 15
    · rw [outsAt0_C m c t h0 h1]
      frame_out
      simp only [read_unread_whole, held_before]
      rw [count_point]
    · rw [outsAt0_B m c t h0 h1]
      frame_out
      simp only [read_unread_whole, held_before]
      rw [count_point]

/-- A one-by-one array has one index. -/
theorem one_idx (i j : S1x1.Idx) : i = j := by
  funext a
  match a with
  | ⟨0, _⟩ => exact Subsingleton.elim (α := Fin 1) _ _
  | ⟨1, _⟩ => exact Subsingleton.elim (α := Fin 1) _ _

/-- The sum of squared differences after the last point: every block's. -/
theorem sq_last (j : S1x1.Idx) :
    (outsAt0 m c t0_15.val t0_15.isLt).2.2.2.2.2.2.2 j = ∑ t : Fin cfg0.N, sqTerm m c t := by
  rw [Pipeline.eq_sum_fin_of_reset_step_apply_last (fun n h => fun j : S1x1.Idx => (outsAt0 m c n h).2.2.2.2.2.2.2 j) 16
    (fun _ => 0) (fun t _ => sqTerm m c t) (fun t h0 j => ?_) (fun t h0 j => ?_) (le_of_eq N_0) t0_15 rfl j]
  · exact zero_add _
  · rw [outsAt0_A m c t h0 (by omega)]
    frame_out
    rw [sq_point]
    rw [show FloatOps.ofBits (F := Ideal) FTy.f32 0#32 = 0 by show Ideal.ofBits .f32 0#32 = 0; simp [Ideal.ofBits, Ideal.ieee]]
  · have e : ∀ j : S1x1.Idx, Shape.Idx.first (s := S1x1) (by decide) = j := fun j => one_idx _ _
    by_cases h1 : t.val % 16 = 15
    · rw [outsAt0_C m c t h0 h1]
      frame_out
      simp only [read_unread_whole, held_before]
      rw [sq_point, e j]
    · rw [outsAt0_B m c t h0 h1]
      frame_out
      simp only [read_unread_whole, held_before]
      rw [sq_point, e j]

/-- The last point leaves the first loss: the mean of the squared differences. -/
theorem loss_last (j : S1x1.Idx) :
    (outsAt0 m c t0_15.val t0_15.isLt).2.2.1 j = Spec.meanOf (∑ t : Fin cfg0.N, sqTerm m c t) := by
  rw [← sq_last m c (Shape.Idx.first (by decide)), outsAt0_C m c t0_15 (by decide) (by decide)]
  frame_out
  rw [pay4_apply]

/-- The last point leaves the second loss: a quarter of the first. -/
theorem quarter_last (j : S1x1.Idx) :
    (outsAt0 m c t0_15.val t0_15.isLt).2.2.2.1 j = Spec.quarterOf (Spec.meanOf (∑ t : Fin cfg0.N, sqTerm m c t)) := by
  rw [← sq_last m c (Shape.Idx.first (by decide)), outsAt0_C m c t0_15 (by decide) (by decide)]
  frame_out
  rw [pay5_apply]

/-- The last point leaves the perplexity of the counts. -/
theorem perplexity_last (j : S1x1.Idx) :
    (outsAt0 m c t0_15.val t0_15.isLt).2.2.2.2.1 j = Ideal.exp (0 - ∑ v : Fin 1024, ∑ s : Fin 256,
      Spec.plog ((∑ t : Fin cfg0.N, countTerm m c t s v) * Ideal.ofBits .f32 0x3C800000#32)) := by
  simp only [← counts_last m c]
  rw [← pay6_apply _ j, outsAt0_C m c t0_15 (by decide) (by decide)]
  frame_out

end Cert.Proof.Kern

end
-- ==== Proof.KernelFinal.lean ====
/-
  The kernel's run: what its five arrays hold after the last point, from the arguments.
-/
module

public import proofs.«01_k».proof.Proof.KernelBlocks

@[expose] public section

set_option maxRecDepth 16384

noncomputable section

namespace Cert.Proof.Kern

open Cert.KernelIdeal Cert.KernelIdeal.Gen Idealize.ShloMosaic Idealize.ShloMosaic.TcCoe Idealize.SL.Sem

variable (m : (ℓ : Loc nD τ sig) → Buf (Elt Ideal) ℓ) (c : Dev nD)

/-- The sequence of a row of the flat arrays. -/
def seqOf (n : Fin 16384) : Fin 64 := ⟨n.val / 256, by omega⟩

/-- The step of a row of the flat arrays. -/
def posOf (n : Fin 16384) : Fin 256 := ⟨n.val % 256, by omega⟩

/-- A row of a point's block, as a row of the flat arrays: its sequence. -/
theorem seqOf_row (t : Fin cfg0.N) (r : Fin 1024) (h : t.val * 1024 + r.val < 16384) : seqOf ⟨t.val * 1024 + r.val, h⟩ = seq t r :=
  Fin.ext (by show (t.val * 1024 + r.val) / 256 = 4 * t.val + r.val / 256; omega)

/-- A row of a point's block, as a row of the flat arrays: its step. -/
theorem posOf_row (t : Fin cfg0.N) (r : Fin 1024) (h : t.val * 1024 + r.val < 16384) : posOf ⟨t.val * 1024 + r.val, h⟩ = pos r :=
  Fin.ext (by show (t.val * 1024 + r.val) % 256 = r.val % 256; omega)

/-- The flat array of straight-through latents. -/
def passedArr : Vec Ideal S16384x16 .f32 := fun i =>
  (wts m c).passed (act m c (seqOf (i 0)) (posOf (i 0))) (cond m c (seqOf (i 0)) (posOf (i 0))) (i 1)

/-- The flat array of codes. -/
def codeArr : Vec Ideal S16384x1 .i32 := fun i =>
  BitVec.ofNat 32 ((wts m c).code (act m c (seqOf (i 0)) (posOf (i 0))) (cond m c (seqOf (i 0)) (posOf (i 0)))).val

/-- The array of straight-through latents after the run. -/
theorem passed_final : (dats m 0 c).arrAt 9 cfg0.N = passedArr m c := by
  refine (dats m 0 c).arrAt_eq_of_covers 9 _ (by decide +kernel) fun t hf y => ?_
  blk_simp
  rw [after0_9]
  idx_vars y
  have ht := point_lt t
  have e : ((View.whole main_call0_v5_0).slice (win0_9.rect t)).emb (ix2 y0 y1) = ix2 ⟨t.val * 1024 + y0.val, by omega⟩ y1 := by
    blk_ext [idx t]
  rw [e, passed_block]
  show _ = _
  unfold passedArr
  rw [show (ix2 (⟨t.val * 1024 + y0.val, by omega⟩ : Fin 16384) y1) 0 = (⟨t.val * 1024 + y0.val, by omega⟩ : Fin 16384) from rfl, seqOf_row, posOf_row]
  rfl

/-- The array of codes after the run. -/
theorem code_final : (dats m 0 c).arrAt 10 cfg0.N = codeArr m c := by
  refine (dats m 0 c).arrAt_eq_of_covers 10 _ (by decide +kernel) fun t hf y => ?_
  blk_simp
  rw [after0_10]
  idx_vars y
  have ht := point_lt t
  have e : ((View.whole main_call0_v5_1).slice (win0_10.rect t)).emb (ix2 y0 y1) = ix2 ⟨t.val * 1024 + y0.val, by omega⟩ y1 := by
    blk_ext [idx t]
  rw [e, code_block]
  show _ = _
  unfold codeArr
  rw [show (ix2 (⟨t.val * 1024 + y0.val, by omega⟩ : Fin 16384) y1) 0 = (⟨t.val * 1024 + y0.val, by omega⟩ : Fin 16384) from rfl, seqOf_row, posOf_row]

/-- The first loss after the run. -/
theorem loss_final : (dats m 0 c).arrAt 11 cfg0.N = fun _ => Spec.meanOf (∑ t : Fin cfg0.N, sqTerm m c t) := by
  refine (dats m 0 c).arrAt_eq_of_after_last 11 t0_15 (by decide +kernel) _ fun j => ?_
  blk_simp
  rw [after0_11]
  exact loss_last m c _

/-- The second loss after the run. -/
theorem quarter_final : (dats m 0 c).arrAt 12 cfg0.N = fun _ => Spec.quarterOf (Spec.meanOf (∑ t : Fin cfg0.N, sqTerm m c t)) := by
  refine (dats m 0 c).arrAt_eq_of_after_last 12 t0_15 (by decide +kernel) _ fun j => ?_
  blk_simp
  rw [after0_12]
  exact quarter_last m c _

/-- The perplexity after the run. -/
theorem perplexity_final : (dats m 0 c).arrAt 13 cfg0.N = fun _ => Ideal.exp (0 - ∑ v : Fin 1024, ∑ s : Fin 256,
      Spec.plog ((∑ t : Fin cfg0.N, countTerm m c t s v) * Ideal.ofBits .f32 0x3C800000#32)) := by
  refine (dats m 0 c).arrAt_eq_of_after_last 13 t0_15 (by decide +kernel) _ fun j => ?_
  blk_simp
  rw [after0_13]
  exact perplexity_last m c _

end Cert.Proof.Kern

end
-- ==== Proof.Totals.lean ====
/-
  The numbers over all rows: the sum of squared differences, the counts and the perplexity, and the two orders of summation.
-/
module

public import proofs.«01_k».proof.Proof.Spec
public import Idealize.ShloMosaic.Lib.Pipeline.ValueKit

@[expose] public section

noncomputable section

namespace Cert.Proof.Spec

open Idealize.ShloMosaic

section Rows
variable (p : Weights) (a : Fin 64 → Fin 256 → Fin 32 → EReal) (c : Fin 64 → Fin 256 → Fin 256 → EReal)

/-- The sum of the squared differences over every sequence, step and coordinate. -/
def totalErr : EReal := ∑ b : Fin 64, ∑ s : Fin 256, ∑ d : Fin 16, p.err (a b s) (c b s) d

/-- How many of the sequences take code `v` at step `s`. -/
def count (s : Fin 256) (v : Fin 1024) : EReal := ∑ b : Fin 64, pick (p.code (a b s) (c b s)) v

/-- The perplexity: the exponential of the negated sum over every step and code. -/
def perplexityOf : EReal :=
  Ideal.exp (-∑ s : Fin 256, ∑ v : Fin 1024, plog (Ideal.div (count p a c s v) (Ideal.ofBits .f32 0x42800000#32)))

end Rows

/-- Sixteen points of four sequences are all sequences. -/
theorem sum_seqs {N : ℕ} (hN : N = 16) (f : Fin 64 → EReal) :
    ∑ t : Fin N, ∑ q : Fin 4, f ⟨4 * t.val + q.val, by omega⟩ = ∑ b, f b := by
  subst hN
  refine Fin.sum_mul_add_congr (S := 16) (n := 4) fun t q hl => congrArg f (Fin.ext ?_)
  show 4 * t.val + q.val = t.val * 4 + q.val
  omega

/-- Sixteen points of a thousand and twenty-four rows are all steps of all sequences. -/
theorem sum_rows {N : ℕ} (hN : N = 16) (f : Fin 64 → Fin 256 → EReal) :
    ∑ t : Fin N, ∑ r : Fin 1024, f ⟨4 * t.val + r.val / 256, by omega⟩ ⟨r.val % 256, by omega⟩ = ∑ b, ∑ s, f b s := by
  rw [← sum_seqs hN fun b => ∑ s, f b s]
  refine Finset.sum_congr rfl fun t _ => ?_
  exact Fin.sum_divmod_fin 256 (fun (q : Fin 4) s => f ⟨4 * t.val + q.val, by omega⟩ s)

/-- The word of sixty-four. -/
theorem sixtyfour_eq : Ideal.ofBits .f32 0x42800000#32 = ((64 : ℝ) : EReal) := by
  simp [Ideal.ofBits, Ideal.ieee, -EReal.coe_mul]; norm_num

/-- The word of a sixty-fourth. -/
theorem inv_sixtyfour_eq : Ideal.ofBits .f32 0x3C800000#32 = ((1 / 64 : ℝ) : EReal) := by
  simp [Ideal.ofBits, Ideal.ieee, -EReal.coe_mul]; norm_num

/-- Multiplying by a sixty-fourth is dividing by sixty-four. -/
theorem mul_inv_sixtyfour (x : EReal) :
    x * Ideal.ofBits .f32 0x3C800000#32 = Ideal.div x (Ideal.ofBits .f32 0x42800000#32) := by
  rw [sixtyfour_eq, inv_sixtyfour_eq, Ideal.div_coe (by norm_num)]

/-- The perplexity with the sums in the other order and the frequencies as products. -/
theorem perplexity_order (n : Fin 256 → Fin 1024 → EReal) :
    Ideal.exp (0 - ∑ v : Fin 1024, ∑ s : Fin 256, plog (n s v * Ideal.ofBits .f32 0x3C800000#32))
      = Ideal.exp (-∑ s : Fin 256, ∑ v : Fin 1024, plog (Ideal.div (n s v) (Ideal.ofBits .f32 0x42800000#32))) := by
  rw [Finset.sum_comm, zero_sub]
  simp only [mul_inv_sixtyfour]

end Cert.Proof.Spec

end
-- ==== Proof.KernelRun.lean ====
/-
  The kernel's run: what its five results hold, from the arguments.
-/
module

public import proofs.«01_k».proof.Proof.KernelFinal
public import proofs.«01_k».proof.Proof.Totals
public import Idealize.ShloMosaic.Lib.Claim

@[expose] public section

set_option maxRecDepth 16384

noncomputable section

namespace Cert.Proof.Kern

open Cert.KernelIdeal Cert.KernelIdeal.Gen Idealize.ShloMosaic Idealize.ShloMosaic.TcCoe Idealize.SL.Sem

variable (m : (ℓ : Loc nD τ sig) → Buf (Elt Ideal) ℓ) (c : Dev nD)

/-- Result 1 is the reshaped array. -/
theorem passed_tail : Pipeline.afterTail₀ cfgs (dats m) 0 (V0 m) [hostOps1] c main_v0_0
    = shapeCast S64x256x16 ((dats m 0 c).arrAt 9 cfg0.N) shapeCasts_S16384x16_S64x256x16 := by
  unfold Pipeline.afterTail₀
  simp only [List.flatten_cons, List.flatten_nil, List.append_nil, hostOps1, StableHlo.TRef.reshape]
  after_results
  erw [Pipeline.withArrays_arr spec0 launch0.win.arr_inj c _ _ 9]
  rfl

/-- Result 2 is the reshaped array. -/
theorem code_tail : Pipeline.afterTail₀ cfgs (dats m) 0 (V0 m) [hostOps1] c main_v0_1
    = shapeCast S64x256x1 ((dats m 0 c).arrAt 10 cfg0.N) shapeCasts_S16384x1_S64x256x1 := by
  unfold Pipeline.afterTail₀
  simp only [List.flatten_cons, List.flatten_nil, List.append_nil, hostOps1, StableHlo.TRef.reshape]
  after_results
  erw [Pipeline.withArrays_arr spec0 launch0.win.arr_inj c _ _ 10]
  rfl

/-- Result 3 is the reshaped array. -/
theorem loss_tail : Pipeline.afterTail₀ cfgs (dats m) 0 (V0 m) [hostOps1] c main_v0_2
    = shapeCast S_ ((dats m 0 c).arrAt 11 cfg0.N) shapeCasts_S1x1_S_ := by
  unfold Pipeline.afterTail₀
  simp only [List.flatten_cons, List.flatten_nil, List.append_nil, hostOps1, StableHlo.TRef.reshape]
  after_results
  erw [Pipeline.withArrays_arr spec0 launch0.win.arr_inj c _ _ 11]
  rfl

/-- Result 4 is the reshaped array. -/
theorem quarter_tail : Pipeline.afterTail₀ cfgs (dats m) 0 (V0 m) [hostOps1] c main_v0_3
    = shapeCast S_ ((dats m 0 c).arrAt 12 cfg0.N) shapeCasts_S1x1_S_ := by
  unfold Pipeline.afterTail₀
  simp only [List.flatten_cons, List.flatten_nil, List.append_nil, hostOps1, StableHlo.TRef.reshape]
  after_results
  erw [Pipeline.withArrays_arr spec0 launch0.win.arr_inj c _ _ 12]
  rfl

/-- Result 5 is the reshaped array. -/
theorem perplexity_tail : Pipeline.afterTail₀ cfgs (dats m) 0 (V0 m) [hostOps1] c main_v0_4
    = shapeCast S_ ((dats m 0 c).arrAt 13 cfg0.N) shapeCasts_S1x1_S_ := by
  unfold Pipeline.afterTail₀
  simp only [List.flatten_cons, List.flatten_nil, List.append_nil, hostOps1, StableHlo.TRef.reshape]
  after_results
  erw [Pipeline.withArrays_arr spec0 launch0.win.arr_inj c _ _ 13]
  rfl

/-- Result 1: the straight-through latents. -/
def res0 : Vec Ideal S64x256x16 .f32 := fun i => (wts m c).passed (act m c (i 0) (i 1)) (cond m c (i 0) (i 1)) (i 2)

/-- Result 2: the codes. -/
def res1 : Vec Ideal S64x256x1 .i32 := fun i => BitVec.ofNat 32 ((wts m c).code (act m c (i 0) (i 1)) (cond m c (i 0) (i 1))).val

/-- Result 3: the mean of the squared differences. -/
def res2 : Vec Ideal S_ .f32 := fun _ => Spec.meanOf (Spec.totalErr (wts m c) (act m c) (cond m c))

/-- Result 4: a quarter of result 3. -/
def res3 : Vec Ideal S_ .f32 := fun _ => Spec.quarterOf (Spec.meanOf (Spec.totalErr (wts m c) (act m c) (cond m c)))

/-- Result 5: the perplexity. -/
def res4 : Vec Ideal S_ .f32 := fun _ => Spec.perplexityOf (wts m c) (act m c) (cond m c)

/-- The points' sums of squared differences make the whole one. -/
theorem sum_sqTerm : ∑ t : Fin cfg0.N, sqTerm m c t = Spec.totalErr (wts m c) (act m c) (cond m c) :=
  Spec.sum_rows N_0 fun b s => ∑ d : Fin 16, (wts m c).err (act m c b s) (cond m c b s) d

/-- The points' counts make the whole ones. -/
theorem sum_countTerm (s : Fin 256) (v : Fin 1024) :
    ∑ t : Fin cfg0.N, countTerm m c t s v = Spec.count (wts m c) (act m c) (cond m c) s v :=
  Spec.sum_seqs N_0 fun b => Spec.pick ((wts m c).code (act m c b s) (cond m c b s)) v

/-- A flat row's sequence and step are those it is made of. -/
theorem seqOf_mk (b : Fin 64) (t : Fin 256) (h : b.val * 256 + t.val < 16384) : seqOf ⟨b.val * 256 + t.val, h⟩ = b :=
  Fin.ext (by show (b.val * 256 + t.val) / 256 = b.val; omega)

/-- A flat row's sequence and step are those it is made of. -/
theorem posOf_mk (b : Fin 64) (t : Fin 256) (h : b.val * 256 + t.val < 16384) : posOf ⟨b.val * 256 + t.val, h⟩ = t :=
  Fin.ext (by show (b.val * 256 + t.val) % 256 = t.val; omega)

/-- An array of latents reshaped to sequences and steps. -/
theorem latents_apply (X : Vec Ideal S16384x16 .f32) (b : Fin 64) (t : Fin 256) (d : Fin 16) :
    shapeCast S64x256x16 X shapeCasts_S16384x16_S64x256x16 (ix3 b t d) = X (ix2 ⟨b.val * 256 + t.val, by omega⟩ d) := by
  pointwise

/-- An array of codes reshaped to sequences and steps. -/
theorem words_apply (X : Vec Ideal S16384x1 .i32) (b : Fin 64) (t : Fin 256) (u : Fin 1) :
    shapeCast S64x256x1 X shapeCasts_S16384x1_S64x256x1 (ix3 b t u) = X (ix2 ⟨b.val * 256 + t.val, by omega⟩ u) := by
  pointwise
  rw [Subsingleton.elim u 0]

/-- Result 1 after the run. -/
theorem passed_result : Pipeline.afterTail₀ cfgs (dats m) 0 (V0 m) [hostOps1] c main_v0_0 = res0 m c := by
  rw [passed_tail, passed_final]
  funext j
  idx_vars j
  refine (latents_apply _ j0 j1 j2).trans ?_
  show (wts m c).passed (act m c (seqOf ⟨j0.val * 256 + j1.val, _⟩) (posOf ⟨j0.val * 256 + j1.val, _⟩))
    (cond m c (seqOf ⟨j0.val * 256 + j1.val, _⟩) (posOf ⟨j0.val * 256 + j1.val, _⟩)) j2 = _
  rw [seqOf_mk, posOf_mk]
  rfl

/-- Result 2 after the run. -/
theorem code_result : Pipeline.afterTail₀ cfgs (dats m) 0 (V0 m) [hostOps1] c main_v0_1 = res1 m c := by
  rw [code_tail, code_final]
  funext j
  idx_vars j
  refine (words_apply _ j0 j1 j2).trans ?_
  show BitVec.ofNat 32 ((wts m c).code (act m c (seqOf ⟨j0.val * 256 + j1.val, _⟩) (posOf ⟨j0.val * 256 + j1.val, _⟩))
    (cond m c (seqOf ⟨j0.val * 256 + j1.val, _⟩) (posOf ⟨j0.val * 256 + j1.val, _⟩))).val = _
  rw [seqOf_mk, posOf_mk]
  rfl

/-- Result 3 after the run. -/
theorem loss_result : Pipeline.afterTail₀ cfgs (dats m) 0 (V0 m) [hostOps1] c main_v0_2 = res2 m c := by
  rw [loss_tail, loss_final, sum_sqTerm]
  rfl

/-- Result 4 after the run. -/
theorem quarter_result : Pipeline.afterTail₀ cfgs (dats m) 0 (V0 m) [hostOps1] c main_v0_3 = res3 m c := by
  rw [quarter_tail, quarter_final, sum_sqTerm]
  rfl

/-- Result 5 after the run. -/
theorem perplexity_result : Pipeline.afterTail₀ cfgs (dats m) 0 (V0 m) [hostOps1] c main_v0_4 = res4 m c := by
  rw [perplexity_tail, perplexity_final]
  simp only [sum_countTerm]
  rw [Spec.perplexity_order]
  rfl

/-- A run of the kernel ends with the five results and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = res0 m c
      ∧ r.2.mem ((c.tc : Thread nD τ).loc main_v0_1) = res1 m c
      ∧ r.2.mem ((c.tc : Thread nD τ).loc main_v0_2) = res2 m c
      ∧ r.2.mem ((c.tc : Thread nD τ).loc main_v0_3) = res3 m c
      ∧ r.2.mem ((c.tc : Thread nD τ).loc main_v0_4) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h.1 c).2 main_v0_0 (Pipeline.mem_restRefs_of main_v0_0 (by decide) (by decide))).trans (passed_result m c),
     ((h.1 c).2 main_v0_1 (Pipeline.mem_restRefs_of main_v0_1 (by decide) (by decide))).trans (code_result m c),
     ((h.1 c).2 main_v0_2 (Pipeline.mem_restRefs_of main_v0_2 (by decide) (by decide))).trans (loss_result m c),
     ((h.1 c).2 main_v0_3 (Pipeline.mem_restRefs_of main_v0_3 (by decide) (by decide))).trans (quarter_result m c),
     ((h.1 c).2 main_v0_4 (Pipeline.mem_restRefs_of main_v0_4 (by decide) (by decide))).trans (perplexity_result m c), h.2 c⟩)
    (θ_run_and (run_main m ρ) (unchanged m ρ))

end Cert.Proof.Kern

end
-- ==== Proof.ReferenceRun.lean ====
/-
  The reference's @main as a list of its ninety operations, cut into eight segments, and its run: every weakly fair
  execution ends with each result buffer at a stage function (`latent`, `codes`, `oneHot`, `quantised`, `passed`, `meanSq`,
  `quarter`, `perplexity` below) of the contents at the launch, with the arguments unchanged and every counter at zero.
  The stage functions are the segments' operations composed; ReferenceRead.lean reads them at an index.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- An array of the reference's floats, over the values `F`. -/
abbrev Arr (F : FTy → Type) (s : Shape) : Type := FVec F s .f32

/-- The actions and the conditions side by side. -/
def joined (a : Arr F S64x256x32) (b : Arr F S64x256x256) : Arr F S64x256x288 :=
  concatenate S64x256x288 2 [⟨S64x256x32, a⟩, ⟨S64x256x256, b⟩] concatenates_S64x256x32_S64x256x256_S64x256x288_d2

/-- The first layer before its activation. -/
def pre1 (x : Arr F S64x256x288) (w : Arr F S288x512) (b : Arr F S512) : Arr F S64x256x512 :=
  addf (Host.dotGeneral dot_S64x256x288_S288x512_S64x256x512_2_0_01_1_n_n none x w)
    (broadcastInDim S64x256x512 ![0, 1, 2] bcast_S1x1x512_S64x256x512_0_1_2 (broadcastInDim S1x1x512 ![2] bcast_S512_S1x1x512_2 b))

/-- The activation of the first layer. -/
def act1 (h : Arr F S64x256x512) : Arr F S64x256x512 :=
  select (cmpf .ogt h (broadcastInDim S64x256x512 ![] bcast_S_S64x256x512 (constant (F := F) S_ .f32 0x00000000#32))) h (Host.expm1 h)

/-- The second layer before its activation. -/
def pre2 (x : Arr F S64x256x512) (w : Arr F S512x256) (b : Arr F S256) : Arr F S64x256x256 :=
  addf (Host.dotGeneral dot_S64x256x512_S512x256_S64x256x256_2_0_01_1_n_n none x w)
    (broadcastInDim S64x256x256 ![0, 1, 2] bcast_S1x1x256_S64x256x256_0_1_2 (broadcastInDim S1x1x256 ![2] bcast_S256_S1x1x256_2 b))

/-- The activation of the second layer. -/
def act2 (h : Arr F S64x256x256) : Arr F S64x256x256 :=
  select (cmpf .ogt h (broadcastInDim S64x256x256 ![] bcast_S_S64x256x256 (constant (F := F) S_ .f32 0x00000000#32))) h (Host.expm1 h)

/-- The third layer: the latent. -/
def latent (x : Arr F S64x256x256) (w : Arr F S256x16) (b : Arr F S16) : Arr F S64x256x16 :=
  addf (Host.dotGeneral dot_S64x256x256_S256x16_S64x256x16_2_0_01_1_n_n none x w)
    (broadcastInDim S64x256x16 ![0, 1, 2] bcast_S1x1x16_S64x256x16_0_1_2 (broadcastInDim S1x1x16 ![2] bcast_S16_S1x1x16_2 b))

/-- The latent with each row divided by its norm. -/
def unitLatent (z : Arr F S64x256x16) : Arr F S64x256x16 :=
  Host.divf z (broadcastInDim S64x256x16 ![0, 1, 2] bcast_S64x256x1_S64x256x16_0_1_2
    (maximumf (Host.sqrt (broadcastInDim S64x256x1 ![0, 1] bcast_S64x256_S64x256x1_0_1
        (Host.reduceAdd (mulf z z) (constant (F := F) S_ .f32 0x00000000#32) reducesTo_S64x256x16_S64x256_d2 h_S_)))
      (broadcastInDim S64x256x1 ![] bcast_S_S64x256x1 (constant (F := F) S_ .f32 0x2B8CBCCC#32))))

/-- The codebook with each row divided by its norm. -/
def unitBook (e : Arr F S1024x16) : Arr F S1024x16 :=
  Host.divf e (broadcastInDim S1024x16 ![0, 1] bcast_S1024x1_S1024x16_0_1
    (maximumf (Host.sqrt (broadcastInDim S1024x1 ![0] bcast_S1024_S1024x1_0
        (Host.reduceAdd (mulf e e) (constant (F := F) S_ .f32 0x00000000#32) reducesTo_S1024x16_S1024_d1 h_S_)))
      (broadcastInDim S1024x1 ![] bcast_S_S1024x1 (constant (F := F) S_ .f32 0x2B8CBCCC#32))))

/-- The products of the normalised rows with the normalised codes, one row per input. -/
def products (z : Arr F S64x256x16) (e : Arr F S1024x16) : Arr F S16384x1024 :=
  shapeCast S16384x1024 (Host.dotGeneral dot_S64x256x16_S1024x16_S64x256x1024_2_1_01_0_n_n none (unitLatent z) (unitBook e))
    shapeCasts_S64x256x1024_S16384x1024

/-- The arg-max of each row of products. -/
def codes (s : Arr F S16384x1024) : IVec S16384 32 := fun j =>
  (Host.argReduce (F := F) reducer_argmax_f32_i32 s (iotaInDim S16384x1024 32 1) (constant (F := F) S_ .f32 0xFF800000#32)
    (constantI S_ 32 0#32) reducesTo_S16384x1024_S16384_d1 h_S_ j).2

/-- The one-hot rows of the codes. -/
def oneHot (F : FTy → Type) [FloatOps F] (i : IVec S16384 32) : Arr F S16384x1024 :=
  uitofp .f32 (cmpi .eq (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The one-hot rows times the codebook: the quantised latent. -/
def quantised (o : Arr F S16384x1024) (e : Arr F S1024x16) : Arr F S64x256x16 :=
  shapeCast S64x256x16 (Host.dotGeneral dot_S16384x1024_S1024x16_S16384x16_1_0_0_1_n_n none o e) shapeCasts_S16384x16_S64x256x16

/-- The straight-through latent. -/
def passed (z q : Arr F S64x256x16) : Arr F S64x256x16 := addf z (subf q z)

/-- The mean of the squared differences. -/
def meanSq (z q : Arr F S64x256x16) : Arr F S_ :=
  Host.divf (Host.reduceAdd (mulf (subf q z) (subf q z)) (constant (F := F) S_ .f32 0x00000000#32) reducesTo_S64x256x16_S_d0_1_2 h_S_)
    (constant (F := F) S_ .f32 0x48800000#32)

/-- A quarter of a scalar. -/
def quarter (x : Arr F S_) : Arr F S_ := mulf (constant (F := F) S_ .f32 0x3E800000#32) x

/-- How often each code is taken at each position, over the sixty-four sequences. -/
def usage (o : Arr F S16384x1024) : Arr F S256x1024 :=
  Host.divf (Host.reduceAdd (shapeCast S64x256x1024 o shapeCasts_S16384x1024_S64x256x1024) (constant (F := F) S_ .f32 0x00000000#32)
    reducesTo_S64x256x1024_S256x1024_d0 h_S_) (broadcastInDim S256x1024 ![] bcast_S_S256x1024 (constant (F := F) S_ .f32 0x42800000#32))

/-- The perplexity of a table of frequencies. -/
def perplexity (p : Arr F S256x1024) : Arr F S_ :=
  Host.exp (Host.negf (Host.reduceAdd (mulf p (Host.log (addf p (broadcastInDim S256x1024 ![] bcast_S_S256x1024 (constant (F := F) S_ .f32 0x2EDBE6FF#32)))))
    (constant (F := F) S_ .f32 0x00000000#32) reducesTo_S256x1024_S_d0_1 h_S_))

/-- The codes as the reference returns them. -/
def codeColumn (i : IVec S16384 32) : IVec S64x256x1 32 := shapeCast S64x256x1 i shapeCasts_S16384_S64x256x1

/-! ## The segments -/

/-- The concatenation, with its operands as plain arguments. -/
def fn_main_v0 : (⟨S64x256x32, .f32⟩ : BufTy).Contents (Elt F) → (⟨S64x256x256, .f32⟩ : BufTy).Contents (Elt F) → (⟨S64x256x288, .f32⟩ : BufTy).Contents (Elt F) :=
  fun a b => joined a b

/-- The operations of @main for the first layer. -/
abbrev opsA : List (HloOp τ sig (Elt F)) :=
  [ binary main_arg0 main_arg1 main_v0 (fn_main_v0 ),
    binary main_v0 main_arg2 main_v1 ((fun l r => Host.dotGeneral dot_S64x256x288_S288x512_S64x256x512_2_0_01_1_n_n none l r) : (⟨S64x256x288, .f32⟩ : BufTy).Contents (Elt F) → (⟨S288x512, .f32⟩ : BufTy).Contents (Elt F) → (⟨S64x256x512, .f32⟩ : BufTy).Contents (Elt F)),
    unary main_arg3 main_v2 (broadcastInDim S1x1x512 ![2] bcast_S512_S1x1x512_2 : (⟨S512, .f32⟩ : BufTy).Contents (Elt F) → (⟨S1x1x512, .f32⟩ : BufTy).Contents (Elt F)),
    unary main_v2 main_v3 (broadcastInDim S64x256x512 ![0, 1, 2] bcast_S1x1x512_S64x256x512_0_1_2 : (⟨S1x1x512, .f32⟩ : BufTy).Contents (Elt F) → (⟨S64x256x512, .f32⟩ : BufTy).Contents (Elt F)),
    binary main_v1 main_v3 main_v4 (addf : (⟨S64x256x512, .f32⟩ : BufTy).Contents (Elt F) → (⟨S64x256x512, .f32⟩ : BufTy).Contents (Elt F) → (⟨S64x256x512, .f32⟩ : BufTy).Contents (Elt F)),
    nullary main_cst (constant S_ .f32 0x00000000#32),
    unary main_cst main_v5 (broadcastInDim S64x256x512 ![] bcast_S_S64x256x512 : (⟨S_, .f32⟩ : BufTy).Contents (Elt F) → (⟨S64x256x512, .f32⟩ : BufTy).Contents (Elt F)),
    binary main_v4 main_v5 main_v6 (cmpf .ogt : (⟨S64x256x512, .f32⟩ : BufTy).Contents (Elt F) → (⟨S64x256x512, .f32⟩ : BufTy).Contents (Elt F) → (⟨S64x256x512, .i1⟩ : BufTy).Contents (Elt F)),
    unary main_v4 main_v7 (Host.expm1 : (⟨S64x256x512, .f32⟩ : BufTy).Contents (Elt F) → (⟨S64x256x512, .f32⟩ : BufTy).Contents (Elt F)),
    TRef.ternary (TRef.of (T := ⟨S64x256x512, .i1⟩) main_v6) (TRef.of (T := ⟨S64x256x512, .f32⟩) main_v4) (TRef.of (T := ⟨S64x256x512, .f32⟩) main_v7) (TRef.of (T := ⟨S64x256x512, .f32⟩) main_v8) select ]

/-- The operations of @main for the second layer. -/
abbrev opsB : List (HloOp τ sig (Elt F)) :=
  [ binary main_v8 main_arg4 main_v9 ((fun l r => Host.dotGeneral dot_S64x256x512_S512x256_S64x256x256_2_0_01_1_n_n none l r) : (⟨S64x256x512, .f32⟩ : BufTy).Contents (Elt F) → (⟨S512x256, .f32⟩ : BufTy).Contents (Elt F) → (⟨S64x256x256, .f32⟩ : BufTy).Contents (Elt F)),
    unary main_arg5 main_v10 (broadcastInDim S1x1x256 ![2] bcast_S256_S1x1x256_2 : (⟨S256, .f32⟩ : BufTy).Contents (Elt F) → (⟨S1x1x256, .f32⟩ : BufTy).Contents (Elt F)),
    unary main_v10 main_v11 (broadcastInDim S64x256x256 ![0, 1, 2] bcast_S1x1x256_S64x256x256_0_1_2 : (⟨S1x1x256, .f32⟩ : BufTy).Contents (Elt F) → (⟨S64x256x256, .f32⟩ : BufTy).Contents (Elt F)),
    binary main_v9 main_v11 main_v12 (addf : (⟨S64x256x256, .f32⟩ : BufTy).Contents (Elt F) → (⟨S64x256x256, .f32⟩ : BufTy).Contents (Elt F) → (⟨S64x256x256, .f32⟩ : BufTy).Contents (Elt F)),
    nullary main_cst_0 (constant S_ .f32 0x00000000#32),
    unary main_cst_0 main_v13 (broadcastInDim S64x256x256 ![] bcast_S_S64x256x256 : (⟨S_, .f32⟩ : BufTy).Contents (Elt F) → (⟨S64x256x256, .f32⟩ : BufTy).Contents (Elt F)),
    binary main_v12 main_v13 main_v14 (cmpf .ogt : (⟨S64x256x256, .f32⟩ : BufTy).Contents (Elt F) → (⟨S64x256x256, .f32⟩ : BufTy).Contents (Elt F) → (⟨S64x256x256, .i1⟩ : BufTy).Contents (Elt F)),
    unary main_v12 main_v15 (Host.expm1 : (⟨S64x256x256, .f32⟩ : BufTy).Contents (Elt F) → (⟨S64x256x256, .f32⟩ : BufTy).Contents (Elt F)),
    TRef.ternary (TRef.of (T := ⟨S64x256x256, .i1⟩) main_v14) (TRef.of (T := ⟨S64x256x256, .f32⟩) main_v12) (TRef.of (T := ⟨S64x256x256, .f32⟩) main_v15) (TRef.of (T := ⟨S64x256x256, .f32⟩) main_v16) select ]

/-- The operations of @main for the latent. -/
abbrev opsC : List (HloOp τ sig (Elt F)) :=
  [ binary main_v16 main_arg6 main_v17 ((fun l r => Host.dotGeneral dot_S64x256x256_S256x16_S64x256x16_2_0_01_1_n_n none l r) : (⟨S64x256x256, .f32⟩ : BufTy).Contents (Elt F) → (⟨S256x16, .f32⟩ : BufTy).Contents (Elt F) → (⟨S64x256x16, .f32⟩ : BufTy).Contents (Elt F)),
    unary main_arg7 main_v18 (broadcastInDim S1x1x16 ![2] bcast_S16_S1x1x16_2 : (⟨S16, .f32⟩ : BufTy).Contents (Elt F) → (⟨S1x1x16, .f32⟩ : BufTy).Contents (Elt F)),
    unary main_v18 main_v19 (broadcastInDim S64x256x16 ![0, 1, 2] bcast_S1x1x16_S64x256x16_0_1_2 : (⟨S1x1x16, .f32⟩ : BufTy).Contents (Elt F) → (⟨S64x256x16, .f32⟩ : BufTy).Contents (Elt F)),
    binary main_v17 main_v19 main_v20 (addf : (⟨S64x256x16, .f32⟩ : BufTy).Contents (Elt F) → (⟨S64x256x16, .f32⟩ : BufTy).Contents (Elt F) → (⟨S64x256x16, .f32⟩ : BufTy).Contents (Elt F)) ]

/-- The operations of @main for the normalised products and the arg-max. -/
abbrev opsD : List (HloOp τ sig (Elt F)) :=
  [ TRef.binary (TRef.of (T := ⟨S64x256x16, .f32⟩) main_v20) (TRef.of (T := ⟨S64x256x16, .f32⟩) main_v20) (TRef.of (T := ⟨S64x256x16, .f32⟩) main_call2_v0) mulf,
    TRef.nullary (TRef.of (T := ⟨S_, .f32⟩) main_call2_cst) (constant S_ .f32 0x00000000#32),
    TRef.binary (TRef.of (T := ⟨S64x256x16, .f32⟩) main_call2_v0) (TRef.of (T := ⟨S_, .f32⟩) main_call2_cst) (TRef.of (T := ⟨S64x256, .f32⟩) main_call2_v1) (fun x v => Host.reduceAdd x v reducesTo_S64x256x16_S64x256_d2 h_S_),
    TRef.unary (TRef.of (T := ⟨S64x256, .f32⟩) main_call2_v1) (TRef.of (T := ⟨S64x256x1, .f32⟩) main_call2_v2) (broadcastInDim S64x256x1 ![0, 1] bcast_S64x256_S64x256x1_0_1),
    TRef.unary (TRef.of (T := ⟨S64x256x1, .f32⟩) main_call2_v2) (TRef.of (T := ⟨S64x256x1, .f32⟩) main_v21) Host.sqrt,
    nullary main_cst_1 (constant S_ .f32 0x2B8CBCCC#32),
    unary main_cst_1 main_v22 (broadcastInDim S64x256x1 ![] bcast_S_S64x256x1 : (⟨S_, .f32⟩ : BufTy).Contents (Elt F) → (⟨S64x256x1, .f32⟩ : BufTy).Contents (Elt F)),
    binary main_v21 main_v22 main_v23 (maximumf : (⟨S64x256x1, .f32⟩ : BufTy).Contents (Elt F) → (⟨S64x256x1, .f32⟩ : BufTy).Contents (Elt F) → (⟨S64x256x1, .f32⟩ : BufTy).Contents (Elt F)),
    unary main_v23 main_v24 (broadcastInDim S64x256x16 ![0, 1, 2] bcast_S64x256x1_S64x256x16_0_1_2 : (⟨S64x256x1, .f32⟩ : BufTy).Contents (Elt F) → (⟨S64x256x16, .f32⟩ : BufTy).Contents (Elt F)),
    binary main_v20 main_v24 main_v25 (Host.divf : (⟨S64x256x16, .f32⟩ : BufTy).Contents (Elt F) → (⟨S64x256x16, .f32⟩ : BufTy).Contents (Elt F) → (⟨S64x256x16, .f32⟩ : BufTy).Contents (Elt F)),
    TRef.binary (TRef.of (T := ⟨S1024x16, .f32⟩) main_arg8) (TRef.of (T := ⟨S1024x16, .f32⟩) main_arg8) (TRef.of (T := ⟨S1024x16, .f32⟩) main_call3_v0) mulf,
    TRef.nullary (TRef.of (T := ⟨S_, .f32⟩) main_call3_cst) (constant S_ .f32 0x00000000#32),
    TRef.binary (TRef.of (T := ⟨S1024x16, .f32⟩) main_call3_v0) (TRef.of (T := ⟨S_, .f32⟩) main_call3_cst) (TRef.of (T := ⟨S1024, .f32⟩) main_call3_v1) (fun x v => Host.reduceAdd x v reducesTo_S1024x16_S1024_d1 h_S_),
    TRef.unary (TRef.of (T := ⟨S1024, .f32⟩) main_call3_v1) (TRef.of (T := ⟨S1024x1, .f32⟩) main_call3_v2) (broadcastInDim S1024x1 ![0] bcast_S1024_S1024x1_0),
    TRef.unary (TRef.of (T := ⟨S1024x1, .f32⟩) main_call3_v2) (TRef.of (T := ⟨S1024x1, .f32⟩) main_v26) Host.sqrt,
    nullary main_cst_2 (constant S_ .f32 0x2B8CBCCC#32),
    unary main_cst_2 main_v27 (broadcastInDim S1024x1 ![] bcast_S_S1024x1 : (⟨S_, .f32⟩ : BufTy).Contents (Elt F) → (⟨S1024x1, .f32⟩ : BufTy).Contents (Elt F)),
    binary main_v26 main_v27 main_v28 (maximumf : (⟨S1024x1, .f32⟩ : BufTy).Contents (Elt F) → (⟨S1024x1, .f32⟩ : BufTy).Contents (Elt F) → (⟨S1024x1, .f32⟩ : BufTy).Contents (Elt F)),
    unary main_v28 main_v29 (broadcastInDim S1024x16 ![0, 1] bcast_S1024x1_S1024x16_0_1 : (⟨S1024x1, .f32⟩ : BufTy).Contents (Elt F) → (⟨S1024x16, .f32⟩ : BufTy).Contents (Elt F)),
    binary main_arg8 main_v29 main_v30 (Host.divf : (⟨S1024x16, .f32⟩ : BufTy).Contents (Elt F) → (⟨S1024x16, .f32⟩ : BufTy).Contents (Elt F) → (⟨S1024x16, .f32⟩ : BufTy).Contents (Elt F)),
    binary main_v25 main_v30 main_v31 ((fun l r => Host.dotGeneral dot_S64x256x16_S1024x16_S64x256x1024_2_1_01_0_n_n none l r) : (⟨S64x256x16, .f32⟩ : BufTy).Contents (Elt F) → (⟨S1024x16, .f32⟩ : BufTy).Contents (Elt F) → (⟨S64x256x1024, .f32⟩ : BufTy).Contents (Elt F)),
    reshape main_v31 main_v32 (rfl : (.f32 : EltTy) = .f32) shapeCasts_S64x256x1024_S16384x1024,
    TRef.nullary (TRef.of (T := ⟨S16384x1024, .i32⟩) main_call4_v0) (iotaInDim S16384x1024 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S16384x1024, .f32⟩) main_v32) (TRef.of (T := ⟨S16384x1024, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmax_f32_i32 x y u v reducesTo_S16384x1024_S16384_d1 h_S_ j).1),
    TRef.quaternary (TRef.of (T := ⟨S16384x1024, .f32⟩) main_v32) (TRef.of (T := ⟨S16384x1024, .i32⟩) main_call4_v0) (TRef.of (T := ⟨S_, .f32⟩) main_call4_cst) (TRef.of (T := ⟨S_, .i32⟩) main_call4_c) (TRef.of (T := ⟨S16384, .i32⟩) main_v33) (fun x y u v j => (Host.argReduce reducer_argmax_f32_i32 x y u v reducesTo_S16384x1024_S16384_d1 h_S_ j).2) ]

/-- The operations of @main for the one-hot rows and the quantised latent. -/
abbrev opsE : List (HloOp τ sig (Elt F)) :=
  [ TRef.unary (TRef.of (T := ⟨S16384, .i32⟩) main_v33) (TRef.of (T := ⟨S16384x1, .i32⟩) main_call5_v0) (broadcastInDim S16384x1 ![0] bcast_S16384_S16384x1_0),
    TRef.nullary (TRef.of (T := ⟨S1x1024, .i32⟩) main_call5_v1) (iotaInDim S1x1024 32 1),
    TRef.unary (TRef.of (T := ⟨S16384x1, .i32⟩) main_call5_v0) (TRef.of (T := ⟨S16384x1024, .i32⟩) main_call5_v2) (broadcastInDim S16384x1024 ![0, 1] bcast_S16384x1_S16384x1024_0_1),
    TRef.unary (TRef.of (T := ⟨S1x1024, .i32⟩) main_call5_v1) (TRef.of (T := ⟨S16384x1024, .i32⟩) main_call5_v3) (broadcastInDim S16384x1024 ![0, 1] bcast_S1x1024_S16384x1024_0_1),
    TRef.binary (TRef.of (T := ⟨S16384x1024, .i32⟩) main_call5_v2) (TRef.of (T := ⟨S16384x1024, .i32⟩) main_call5_v3) (TRef.of (T := ⟨S16384x1024, .i1⟩) main_call5_v4) (cmpi .eq),
    TRef.unary (TRef.of (T := ⟨S16384x1024, .i1⟩) main_call5_v4) (TRef.of (T := ⟨S16384x1024, .f32⟩) main_v34) (uitofp .f32),
    binary main_v34 main_arg8 main_v35 ((fun l r => Host.dotGeneral dot_S16384x1024_S1024x16_S16384x16_1_0_0_1_n_n none l r) : (⟨S16384x1024, .f32⟩ : BufTy).Contents (Elt F) → (⟨S1024x16, .f32⟩ : BufTy).Contents (Elt F) → (⟨S16384x16, .f32⟩ : BufTy).Contents (Elt F)),
    reshape main_v35 main_v36 (rfl : (.f32 : EltTy) = .f32) shapeCasts_S16384x16_S64x256x16 ]

/-- The operations of @main for the two losses and the straight-through latent. -/
abbrev opsF : List (HloOp τ sig (Elt F)) :=
  [ binary main_v36 main_v20 main_v37 (subf : (⟨S64x256x16, .f32⟩ : BufTy).Contents (Elt F) → (⟨S64x256x16, .f32⟩ : BufTy).Contents (Elt F) → (⟨S64x256x16, .f32⟩ : BufTy).Contents (Elt F)),
    binary main_v37 main_v37 main_v38 (mulf : (⟨S64x256x16, .f32⟩ : BufTy).Contents (Elt F) → (⟨S64x256x16, .f32⟩ : BufTy).Contents (Elt F) → (⟨S64x256x16, .f32⟩ : BufTy).Contents (Elt F)),
    nullary main_cst_3 (constant S_ .f32 0x00000000#32),
    binary main_v38 main_cst_3 main_v39 ((fun x v => Host.reduceAdd x v reducesTo_S64x256x16_S_d0_1_2 h_S_) : (⟨S64x256x16, .f32⟩ : BufTy).Contents (Elt F) → (⟨S_, .f32⟩ : BufTy).Contents (Elt F) → (⟨S_, .f32⟩ : BufTy).Contents (Elt F)),
    nullary main_cst_4 (constant S_ .f32 0x48800000#32),
    binary main_v39 main_cst_4 main_v40 (Host.divf : (⟨S_, .f32⟩ : BufTy).Contents (Elt F) → (⟨S_, .f32⟩ : BufTy).Contents (Elt F) → (⟨S_, .f32⟩ : BufTy).Contents (Elt F)),
    nullary main_cst_5 (constant S_ .f32 0x3E800000#32),
    binary main_cst_5 main_v40 main_v41 (mulf : (⟨S_, .f32⟩ : BufTy).Contents (Elt F) → (⟨S_, .f32⟩ : BufTy).Contents (Elt F) → (⟨S_, .f32⟩ : BufTy).Contents (Elt F)),
    binary main_v36 main_v20 main_v42 (subf : (⟨S64x256x16, .f32⟩ : BufTy).Contents (Elt F) → (⟨S64x256x16, .f32⟩ : BufTy).Contents (Elt F) → (⟨S64x256x16, .f32⟩ : BufTy).Contents (Elt F)),
    binary main_v42 main_v42 main_v43 (mulf : (⟨S64x256x16, .f32⟩ : BufTy).Contents (Elt F) → (⟨S64x256x16, .f32⟩ : BufTy).Contents (Elt F) → (⟨S64x256x16, .f32⟩ : BufTy).Contents (Elt F)),
    nullary main_cst_6 (constant S_ .f32 0x00000000#32),
    binary main_v43 main_cst_6 main_v44 ((fun x v => Host.reduceAdd x v reducesTo_S64x256x16_S_d0_1_2 h_S_) : (⟨S64x256x16, .f32⟩ : BufTy).Contents (Elt F) → (⟨S_, .f32⟩ : BufTy).Contents (Elt F) → (⟨S_, .f32⟩ : BufTy).Contents (Elt F)),
    nullary main_cst_7 (constant S_ .f32 0x48800000#32),
    binary main_v44 main_cst_7 main_v45 (Host.divf : (⟨S_, .f32⟩ : BufTy).Contents (Elt F) → (⟨S_, .f32⟩ : BufTy).Contents (Elt F) → (⟨S_, .f32⟩ : BufTy).Contents (Elt F)),
    binary main_v36 main_v20 main_v46 (subf : (⟨S64x256x16, .f32⟩ : BufTy).Contents (Elt F) → (⟨S64x256x16, .f32⟩ : BufTy).Contents (Elt F) → (⟨S64x256x16, .f32⟩ : BufTy).Contents (Elt F)),
    binary main_v20 main_v46 main_v47 (addf : (⟨S64x256x16, .f32⟩ : BufTy).Contents (Elt F) → (⟨S64x256x16, .f32⟩ : BufTy).Contents (Elt F) → (⟨S64x256x16, .f32⟩ : BufTy).Contents (Elt F)) ]

/-- The operations of @main for the perplexity. -/
abbrev opsG : List (HloOp τ sig (Elt F)) :=
  [ reshape main_v34 main_v48 (rfl : (.f32 : EltTy) = .f32) shapeCasts_S16384x1024_S64x256x1024,
    nullary main_cst_8 (constant S_ .f32 0x00000000#32),
    binary main_v48 main_cst_8 main_v49 ((fun x v => Host.reduceAdd x v reducesTo_S64x256x1024_S256x1024_d0 h_S_) : (⟨S64x256x1024, .f32⟩ : BufTy).Contents (Elt F) → (⟨S_, .f32⟩ : BufTy).Contents (Elt F) → (⟨S256x1024, .f32⟩ : BufTy).Contents (Elt F)),
    nullary main_cst_9 (constant S_ .f32 0x42800000#32),
    unary main_cst_9 main_v50 (broadcastInDim S256x1024 ![] bcast_S_S256x1024 : (⟨S_, .f32⟩ : BufTy).Contents (Elt F) → (⟨S256x1024, .f32⟩ : BufTy).Contents (Elt F)),
    binary main_v49 main_v50 main_v51 (Host.divf : (⟨S256x1024, .f32⟩ : BufTy).Contents (Elt F) → (⟨S256x1024, .f32⟩ : BufTy).Contents (Elt F) → (⟨S256x1024, .f32⟩ : BufTy).Contents (Elt F)),
    nullary main_cst_10 (constant S_ .f32 0x2EDBE6FF#32),
    unary main_cst_10 main_v52 (broadcastInDim S256x1024 ![] bcast_S_S256x1024 : (⟨S_, .f32⟩ : BufTy).Contents (Elt F) → (⟨S256x1024, .f32⟩ : BufTy).Contents (Elt F)),
    binary main_v51 main_v52 main_v53 (addf : (⟨S256x1024, .f32⟩ : BufTy).Contents (Elt F) → (⟨S256x1024, .f32⟩ : BufTy).Contents (Elt F) → (⟨S256x1024, .f32⟩ : BufTy).Contents (Elt F)),
    unary main_v53 main_v54 (Host.log : (⟨S256x1024, .f32⟩ : BufTy).Contents (Elt F) → (⟨S256x1024, .f32⟩ : BufTy).Contents (Elt F)),
    binary main_v51 main_v54 main_v55 (mulf : (⟨S256x1024, .f32⟩ : BufTy).Contents (Elt F) → (⟨S256x1024, .f32⟩ : BufTy).Contents (Elt F) → (⟨S256x1024, .f32⟩ : BufTy).Contents (Elt F)),
    nullary main_cst_11 (constant S_ .f32 0x00000000#32),
    binary main_v55 main_cst_11 main_v56 ((fun x v => Host.reduceAdd x v reducesTo_S256x1024_S_d0_1 h_S_) : (⟨S256x1024, .f32⟩ : BufTy).Contents (Elt F) → (⟨S_, .f32⟩ : BufTy).Contents (Elt F) → (⟨S_, .f32⟩ : BufTy).Contents (Elt F)),
    unary main_v56 main_v57 (Host.negf : (⟨S_, .f32⟩ : BufTy).Contents (Elt F) → (⟨S_, .f32⟩ : BufTy).Contents (Elt F)),
    unary main_v57 main_v58 (Host.exp : (⟨S_, .f32⟩ : BufTy).Contents (Elt F) → (⟨S_, .f32⟩ : BufTy).Contents (Elt F)) ]

/-- The operations of @main for the reshape of the indices. -/
abbrev opsH : List (HloOp τ sig (Elt F)) :=
  [ reshape main_v33 main_v59 (rfl : (.i32 : EltTy) = .i32) shapeCasts_S16384_S64x256x1 ]

/-- @main's operations, in order. -/
abbrev ops : List (HloOp τ sig (Elt F)) := opsA ++ (opsB ++ (opsC ++ (opsD ++ (opsE ++ (opsF ++ (opsG ++ opsH))))))

set_option maxRecDepth 8192 in
set_option maxHeartbeats 4000000 in
/-- @main is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation works on the TensorCore's buffers. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., ternary_bufs_sub .., binary_bufs_sub .., unary_bufs_sub .., unary_bufs_sub .., binary_bufs_sub .., nullary_bufs_sub .., unary_bufs_sub .., binary_bufs_sub .., unary_bufs_sub .., ternary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., reshape_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., reshape_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., reshape_bufs_sub ..⟩

set_option maxRecDepth 8192 in
/-- Every operation determines its result. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A line of two segments is the second after the first. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The contents of a buffer of the reference, of the type of that buffer. -/
abbrev rd (V : Valuation τ sig (Elt F)) (b : Ref sig .tc) := V (Proc.devRef (τ := τ) .tc b)

set_option maxRecDepth 8192 in
set_option maxHeartbeats 4000000 in
/-- The first layer. -/
theorem A_v8 (V : Valuation τ sig (Elt F)) :
    rd (after opsA V) main_v8 = act1 (pre1 (joined (rd V main_arg0) (rd V main_arg1)) (rd V main_arg2) (rd V main_arg3)) := by
  simp only [opsA, TRef.binary, TRef.nullary, TRef.quaternary, TRef.ternary, TRef.unary, TRef.toBuf, TRef.ofBuf, cast_eq]; after_results_simp <;> rfl

set_option maxRecDepth 8192 in
set_option maxHeartbeats 4000000 in
/-- The second layer. -/
theorem B_v16 (V : Valuation τ sig (Elt F)) :
    rd (after opsB V) main_v16 = act2 (pre2 (rd V main_v8) (rd V main_arg4) (rd V main_arg5)) := by
  simp only [opsB, TRef.binary, TRef.nullary, TRef.quaternary, TRef.ternary, TRef.unary, TRef.toBuf, TRef.ofBuf, cast_eq]; after_results_simp <;> rfl

set_option maxRecDepth 8192 in
set_option maxHeartbeats 4000000 in
/-- The latent. -/
theorem C_v20 (V : Valuation τ sig (Elt F)) :
    rd (after opsC V) main_v20 = latent (rd V main_v16) (rd V main_arg6) (rd V main_arg7) := by
  simp only [opsC, TRef.binary, TRef.nullary, TRef.quaternary, TRef.ternary, TRef.unary, TRef.toBuf, TRef.ofBuf, cast_eq]; after_results_simp <;> rfl

set_option maxRecDepth 8192 in
set_option maxHeartbeats 4000000 in
/-- The codes. -/
theorem D_v33 (V : Valuation τ sig (Elt F)) :
    rd (after opsD V) main_v33 = codes (products (rd V main_v20) (rd V main_arg8)) := by
  simp only [opsD, TRef.binary, TRef.nullary, TRef.quaternary, TRef.ternary, TRef.unary, TRef.toBuf, TRef.ofBuf, cast_eq]; after_results_simp <;> rfl

set_option maxRecDepth 8192 in
set_option maxHeartbeats 4000000 in
/-- The one-hot rows. -/
theorem E_v34 (V : Valuation τ sig (Elt F)) :
    rd (after opsE V) main_v34 = oneHot F (rd V main_v33) := by
  simp only [opsE, TRef.binary, TRef.nullary, TRef.quaternary, TRef.ternary, TRef.unary, TRef.toBuf, TRef.ofBuf, cast_eq]; after_results_simp <;> rfl

set_option maxRecDepth 8192 in
set_option maxHeartbeats 4000000 in
/-- The quantised latent. -/
theorem E_v36 (V : Valuation τ sig (Elt F)) :
    rd (after opsE V) main_v36 = quantised (oneHot F (rd V main_v33)) (rd V main_arg8) := by
  simp only [opsE, TRef.binary, TRef.nullary, TRef.quaternary, TRef.ternary, TRef.unary, TRef.toBuf, TRef.ofBuf, cast_eq]; after_results_simp <;> rfl

set_option maxRecDepth 8192 in
set_option maxHeartbeats 4000000 in
/-- The straight-through latent. -/
theorem F_v47 (V : Valuation τ sig (Elt F)) :
    rd (after opsF V) main_v47 = passed (rd V main_v20) (rd V main_v36) := by
  simp only [opsF, TRef.binary, TRef.nullary, TRef.quaternary, TRef.ternary, TRef.unary, TRef.toBuf, TRef.ofBuf, cast_eq]; after_results_simp <;> rfl

set_option maxRecDepth 8192 in
set_option maxHeartbeats 4000000 in
/-- The first loss. -/
theorem F_v45 (V : Valuation τ sig (Elt F)) :
    rd (after opsF V) main_v45 = meanSq (rd V main_v20) (rd V main_v36) := by
  simp only [opsF, TRef.binary, TRef.nullary, TRef.quaternary, TRef.ternary, TRef.unary, TRef.toBuf, TRef.ofBuf, cast_eq]; after_results_simp <;> rfl

set_option maxRecDepth 8192 in
set_option maxHeartbeats 4000000 in
/-- The second loss. -/
theorem F_v41 (V : Valuation τ sig (Elt F)) :
    rd (after opsF V) main_v41 = quarter (meanSq (rd V main_v20) (rd V main_v36)) := by
  simp only [opsF, TRef.binary, TRef.nullary, TRef.quaternary, TRef.ternary, TRef.unary, TRef.toBuf, TRef.ofBuf, cast_eq]; after_results_simp <;> rfl

set_option maxRecDepth 8192 in
set_option maxHeartbeats 4000000 in
/-- The perplexity. -/
theorem G_v58 (V : Valuation τ sig (Elt F)) :
    rd (after opsG V) main_v58 = perplexity (usage (rd V main_v34)) := by
  simp only [opsG, TRef.binary, TRef.nullary, TRef.quaternary, TRef.ternary, TRef.unary, TRef.toBuf, TRef.ofBuf, cast_eq]; after_results_simp <;> rfl

set_option maxRecDepth 8192 in
set_option maxHeartbeats 4000000 in
/-- The codes as returned. -/
theorem H_v59 (V : Valuation τ sig (Elt F)) :
    rd (after opsH V) main_v59 = codeColumn (rd V main_v33) := by
  simp only [opsH, TRef.binary, TRef.nullary, TRef.quaternary, TRef.ternary, TRef.unary, TRef.toBuf, TRef.ofBuf, cast_eq]; after_results_simp <;> rfl

theorem A_keep_arg0 (V : Valuation τ sig (Elt F)) : rd (after opsA V) main_arg0 = rd V main_arg0 := by
  simp only [opsA, TRef.binary, TRef.nullary, TRef.quaternary, TRef.ternary, TRef.unary, TRef.toBuf, TRef.ofBuf, cast_eq]; after_results_simp <;> rfl

theorem A_keep_arg1 (V : Valuation τ sig (Elt F)) : rd (after opsA V) main_arg1 = rd V main_arg1 := by
  simp only [opsA, TRef.binary, TRef.nullary, TRef.quaternary, TRef.ternary, TRef.unary, TRef.toBuf, TRef.ofBuf, cast_eq]; after_results_simp <;> rfl

theorem A_keep_arg2 (V : Valuation τ sig (Elt F)) : rd (after opsA V) main_arg2 = rd V main_arg2 := by
  simp only [opsA, TRef.binary, TRef.nullary, TRef.quaternary, TRef.ternary, TRef.unary, TRef.toBuf, TRef.ofBuf, cast_eq]; after_results_simp <;> rfl

theorem A_keep_arg3 (V : Valuation τ sig (Elt F)) : rd (after opsA V) main_arg3 = rd V main_arg3 := by
  simp only [opsA, TRef.binary, TRef.nullary, TRef.quaternary, TRef.ternary, TRef.unary, TRef.toBuf, TRef.ofBuf, cast_eq]; after_results_simp <;> rfl

theorem A_keep_arg4 (V : Valuation τ sig (Elt F)) : rd (after opsA V) main_arg4 = rd V main_arg4 := by
  simp only [opsA, TRef.binary, TRef.nullary, TRef.quaternary, TRef.ternary, TRef.unary, TRef.toBuf, TRef.ofBuf, cast_eq]; after_results_simp <;> rfl

theorem A_keep_arg5 (V : Valuation τ sig (Elt F)) : rd (after opsA V) main_arg5 = rd V main_arg5 := by
  simp only [opsA, TRef.binary, TRef.nullary, TRef.quaternary, TRef.ternary, TRef.unary, TRef.toBuf, TRef.ofBuf, cast_eq]; after_results_simp <;> rfl

theorem A_keep_arg6 (V : Valuation τ sig (Elt F)) : rd (after opsA V) main_arg6 = rd V main_arg6 := by
  simp only [opsA, TRef.binary, TRef.nullary, TRef.quaternary, TRef.ternary, TRef.unary, TRef.toBuf, TRef.ofBuf, cast_eq]; after_results_simp <;> rfl

theorem A_keep_arg7 (V : Valuation τ sig (Elt F)) : rd (after opsA V) main_arg7 = rd V main_arg7 := by
  simp only [opsA, TRef.binary, TRef.nullary, TRef.quaternary, TRef.ternary, TRef.unary, TRef.toBuf, TRef.ofBuf, cast_eq]; after_results_simp <;> rfl

theorem A_keep_arg8 (V : Valuation τ sig (Elt F)) : rd (after opsA V) main_arg8 = rd V main_arg8 := by
  simp only [opsA, TRef.binary, TRef.nullary, TRef.quaternary, TRef.ternary, TRef.unary, TRef.toBuf, TRef.ofBuf, cast_eq]; after_results_simp <;> rfl

theorem B_keep_arg0 (V : Valuation τ sig (Elt F)) : rd (after opsB V) main_arg0 = rd V main_arg0 := by
  simp only [opsB, TRef.binary, TRef.nullary, TRef.quaternary, TRef.ternary, TRef.unary, TRef.toBuf, TRef.ofBuf, cast_eq]; after_results_simp <;> rfl

theorem B_keep_arg1 (V : Valuation τ sig (Elt F)) : rd (after opsB V) main_arg1 = rd V main_arg1 := by
  simp only [opsB, TRef.binary, TRef.nullary, TRef.quaternary, TRef.ternary, TRef.unary, TRef.toBuf, TRef.ofBuf, cast_eq]; after_results_simp <;> rfl

theorem B_keep_arg2 (V : Valuation τ sig (Elt F)) : rd (after opsB V) main_arg2 = rd V main_arg2 := by
  simp only [opsB, TRef.binary, TRef.nullary, TRef.quaternary, TRef.ternary, TRef.unary, TRef.toBuf, TRef.ofBuf, cast_eq]; after_results_simp <;> rfl

theorem B_keep_arg3 (V : Valuation τ sig (Elt F)) : rd (after opsB V) main_arg3 = rd V main_arg3 := by
  simp only [opsB, TRef.binary, TRef.nullary, TRef.quaternary, TRef.ternary, TRef.unary, TRef.toBuf, TRef.ofBuf, cast_eq]; after_results_simp <;> rfl

theorem B_keep_arg4 (V : Valuation τ sig (Elt F)) : rd (after opsB V) main_arg4 = rd V main_arg4 := by
  simp only [opsB, TRef.binary, TRef.nullary, TRef.quaternary, TRef.ternary, TRef.unary, TRef.toBuf, TRef.ofBuf, cast_eq]; after_results_simp <;> rfl

theorem B_keep_arg5 (V : Valuation τ sig (Elt F)) : rd (after opsB V) main_arg5 = rd V main_arg5 := by
  simp only [opsB, TRef.binary, TRef.nullary, TRef.quaternary, TRef.ternary, TRef.unary, TRef.toBuf, TRef.ofBuf, cast_eq]; after_results_simp <;> rfl

theorem B_keep_arg6 (V : Valuation τ sig (Elt F)) : rd (after opsB V) main_arg6 = rd V main_arg6 := by
  simp only [opsB, TRef.binary, TRef.nullary, TRef.quaternary, TRef.ternary, TRef.unary, TRef.toBuf, TRef.ofBuf, cast_eq]; after_results_simp <;> rfl

theorem B_keep_arg7 (V : Valuation τ sig (Elt F)) : rd (after opsB V) main_arg7 = rd V main_arg7 := by
  simp only [opsB, TRef.binary, TRef.nullary, TRef.quaternary, TRef.ternary, TRef.unary, TRef.toBuf, TRef.ofBuf, cast_eq]; after_results_simp <;> rfl

theorem B_keep_arg8 (V : Valuation τ sig (Elt F)) : rd (after opsB V) main_arg8 = rd V main_arg8 := by
  simp only [opsB, TRef.binary, TRef.nullary, TRef.quaternary, TRef.ternary, TRef.unary, TRef.toBuf, TRef.ofBuf, cast_eq]; after_results_simp <;> rfl

theorem C_keep_arg0 (V : Valuation τ sig (Elt F)) : rd (after opsC V) main_arg0 = rd V main_arg0 := by
  simp only [opsC, TRef.binary, TRef.nullary, TRef.quaternary, TRef.ternary, TRef.unary, TRef.toBuf, TRef.ofBuf, cast_eq]; after_results_simp <;> rfl

theorem C_keep_arg1 (V : Valuation τ sig (Elt F)) : rd (after opsC V) main_arg1 = rd V main_arg1 := by
  simp only [opsC, TRef.binary, TRef.nullary, TRef.quaternary, TRef.ternary, TRef.unary, TRef.toBuf, TRef.ofBuf, cast_eq]; after_results_simp <;> rfl

theorem C_keep_arg2 (V : Valuation τ sig (Elt F)) : rd (after opsC V) main_arg2 = rd V main_arg2 := by
  simp only [opsC, TRef.binary, TRef.nullary, TRef.quaternary, TRef.ternary, TRef.unary, TRef.toBuf, TRef.ofBuf, cast_eq]; after_results_simp <;> rfl

theorem C_keep_arg3 (V : Valuation τ sig (Elt F)) : rd (after opsC V) main_arg3 = rd V main_arg3 := by
  simp only [opsC, TRef.binary, TRef.nullary, TRef.quaternary, TRef.ternary, TRef.unary, TRef.toBuf, TRef.ofBuf, cast_eq]; after_results_simp <;> rfl

theorem C_keep_arg4 (V : Valuation τ sig (Elt F)) : rd (after opsC V) main_arg4 = rd V main_arg4 := by
  simp only [opsC, TRef.binary, TRef.nullary, TRef.quaternary, TRef.ternary, TRef.unary, TRef.toBuf, TRef.ofBuf, cast_eq]; after_results_simp <;> rfl

theorem C_keep_arg5 (V : Valuation τ sig (Elt F)) : rd (after opsC V) main_arg5 = rd V main_arg5 := by
  simp only [opsC, TRef.binary, TRef.nullary, TRef.quaternary, TRef.ternary, TRef.unary, TRef.toBuf, TRef.ofBuf, cast_eq]; after_results_simp <;> rfl

theorem C_keep_arg6 (V : Valuation τ sig (Elt F)) : rd (after opsC V) main_arg6 = rd V main_arg6 := by
  simp only [opsC, TRef.binary, TRef.nullary, TRef.quaternary, TRef.ternary, TRef.unary, TRef.toBuf, TRef.ofBuf, cast_eq]; after_results_simp <;> rfl

theorem C_keep_arg7 (V : Valuation τ sig (Elt F)) : rd (after opsC V) main_arg7 = rd V main_arg7 := by
  simp only [opsC, TRef.binary, TRef.nullary, TRef.quaternary, TRef.ternary, TRef.unary, TRef.toBuf, TRef.ofBuf, cast_eq]; after_results_simp <;> rfl

theorem C_keep_arg8 (V : Valuation τ sig (Elt F)) : rd (after opsC V) main_arg8 = rd V main_arg8 := by
  simp only [opsC, TRef.binary, TRef.nullary, TRef.quaternary, TRef.ternary, TRef.unary, TRef.toBuf, TRef.ofBuf, cast_eq]; after_results_simp <;> rfl

theorem D_keep_arg0 (V : Valuation τ sig (Elt F)) : rd (after opsD V) main_arg0 = rd V main_arg0 := by
  simp only [opsD, TRef.binary, TRef.nullary, TRef.quaternary, TRef.ternary, TRef.unary, TRef.toBuf, TRef.ofBuf, cast_eq]; after_results_simp <;> rfl

theorem D_keep_arg1 (V : Valuation τ sig (Elt F)) : rd (after opsD V) main_arg1 = rd V main_arg1 := by
  simp only [opsD, TRef.binary, TRef.nullary, TRef.quaternary, TRef.ternary, TRef.unary, TRef.toBuf, TRef.ofBuf, cast_eq]; after_results_simp <;> rfl

theorem D_keep_arg2 (V : Valuation τ sig (Elt F)) : rd (after opsD V) main_arg2 = rd V main_arg2 := by
  simp only [opsD, TRef.binary, TRef.nullary, TRef.quaternary, TRef.ternary, TRef.unary, TRef.toBuf, TRef.ofBuf, cast_eq]; after_results_simp <;> rfl

theorem D_keep_arg3 (V : Valuation τ sig (Elt F)) : rd (after opsD V) main_arg3 = rd V main_arg3 := by
  simp only [opsD, TRef.binary, TRef.nullary, TRef.quaternary, TRef.ternary, TRef.unary, TRef.toBuf, TRef.ofBuf, cast_eq]; after_results_simp <;> rfl

theorem D_keep_arg4 (V : Valuation τ sig (Elt F)) : rd (after opsD V) main_arg4 = rd V main_arg4 := by
  simp only [opsD, TRef.binary, TRef.nullary, TRef.quaternary, TRef.ternary, TRef.unary, TRef.toBuf, TRef.ofBuf, cast_eq]; after_results_simp <;> rfl

theorem D_keep_arg5 (V : Valuation τ sig (Elt F)) : rd (after opsD V) main_arg5 = rd V main_arg5 := by
  simp only [opsD, TRef.binary, TRef.nullary, TRef.quaternary, TRef.ternary, TRef.unary, TRef.toBuf, TRef.ofBuf, cast_eq]; after_results_simp <;> rfl

theorem D_keep_arg6 (V : Valuation τ sig (Elt F)) : rd (after opsD V) main_arg6 = rd V main_arg6 := by
  simp only [opsD, TRef.binary, TRef.nullary, TRef.quaternary, TRef.ternary, TRef.unary, TRef.toBuf, TRef.ofBuf, cast_eq]; after_results_simp <;> rfl

theorem D_keep_arg7 (V : Valuation τ sig (Elt F)) : rd (after opsD V) main_arg7 = rd V main_arg7 := by
  simp only [opsD, TRef.binary, TRef.nullary, TRef.quaternary, TRef.ternary, TRef.unary, TRef.toBuf, TRef.ofBuf, cast_eq]; after_results_simp <;> rfl

theorem D_keep_arg8 (V : Valuation τ sig (Elt F)) : rd (after opsD V) main_arg8 = rd V main_arg8 := by
  simp only [opsD, TRef.binary, TRef.nullary, TRef.quaternary, TRef.ternary, TRef.unary, TRef.toBuf, TRef.ofBuf, cast_eq]; after_results_simp <;> rfl

theorem D_keep_v20 (V : Valuation τ sig (Elt F)) : rd (after opsD V) main_v20 = rd V main_v20 := by
  simp only [opsD, TRef.binary, TRef.nullary, TRef.quaternary, TRef.ternary, TRef.unary, TRef.toBuf, TRef.ofBuf, cast_eq]; after_results_simp <;> rfl

theorem E_keep_arg0 (V : Valuation τ sig (Elt F)) : rd (after opsE V) main_arg0 = rd V main_arg0 := by
  simp only [opsE, TRef.binary, TRef.nullary, TRef.quaternary, TRef.ternary, TRef.unary, TRef.toBuf, TRef.ofBuf, cast_eq]; after_results_simp <;> rfl

theorem E_keep_arg1 (V : Valuation τ sig (Elt F)) : rd (after opsE V) main_arg1 = rd V main_arg1 := by
  simp only [opsE, TRef.binary, TRef.nullary, TRef.quaternary, TRef.ternary, TRef.unary, TRef.toBuf, TRef.ofBuf, cast_eq]; after_results_simp <;> rfl

theorem E_keep_arg2 (V : Valuation τ sig (Elt F)) : rd (after opsE V) main_arg2 = rd V main_arg2 := by
  simp only [opsE, TRef.binary, TRef.nullary, TRef.quaternary, TRef.ternary, TRef.unary, TRef.toBuf, TRef.ofBuf, cast_eq]; after_results_simp <;> rfl

theorem E_keep_arg3 (V : Valuation τ sig (Elt F)) : rd (after opsE V) main_arg3 = rd V main_arg3 := by
  simp only [opsE, TRef.binary, TRef.nullary, TRef.quaternary, TRef.ternary, TRef.unary, TRef.toBuf, TRef.ofBuf, cast_eq]; after_results_simp <;> rfl

theorem E_keep_arg4 (V : Valuation τ sig (Elt F)) : rd (after opsE V) main_arg4 = rd V main_arg4 := by
  simp only [opsE, TRef.binary, TRef.nullary, TRef.quaternary, TRef.ternary, TRef.unary, TRef.toBuf, TRef.ofBuf, cast_eq]; after_results_simp <;> rfl

theorem E_keep_arg5 (V : Valuation τ sig (Elt F)) : rd (after opsE V) main_arg5 = rd V main_arg5 := by
  simp only [opsE, TRef.binary, TRef.nullary, TRef.quaternary, TRef.ternary, TRef.unary, TRef.toBuf, TRef.ofBuf, cast_eq]; after_results_simp <;> rfl

theorem E_keep_arg6 (V : Valuation τ sig (Elt F)) : rd (after opsE V) main_arg6 = rd V main_arg6 := by
  simp only [opsE, TRef.binary, TRef.nullary, TRef.quaternary, TRef.ternary, TRef.unary, TRef.toBuf, TRef.ofBuf, cast_eq]; after_results_simp <;> rfl

theorem E_keep_arg7 (V : Valuation τ sig (Elt F)) : rd (after opsE V) main_arg7 = rd V main_arg7 := by
  simp only [opsE, TRef.binary, TRef.nullary, TRef.quaternary, TRef.ternary, TRef.unary, TRef.toBuf, TRef.ofBuf, cast_eq]; after_results_simp <;> rfl

theorem E_keep_arg8 (V : Valuation τ sig (Elt F)) : rd (after opsE V) main_arg8 = rd V main_arg8 := by
  simp only [opsE, TRef.binary, TRef.nullary, TRef.quaternary, TRef.ternary, TRef.unary, TRef.toBuf, TRef.ofBuf, cast_eq]; after_results_simp <;> rfl

theorem E_keep_v20 (V : Valuation τ sig (Elt F)) : rd (after opsE V) main_v20 = rd V main_v20 := by
  simp only [opsE, TRef.binary, TRef.nullary, TRef.quaternary, TRef.ternary, TRef.unary, TRef.toBuf, TRef.ofBuf, cast_eq]; after_results_simp <;> rfl

theorem E_keep_v33 (V : Valuation τ sig (Elt F)) : rd (after opsE V) main_v33 = rd V main_v33 := by
  simp only [opsE, TRef.binary, TRef.nullary, TRef.quaternary, TRef.ternary, TRef.unary, TRef.toBuf, TRef.ofBuf, cast_eq]; after_results_simp <;> rfl

theorem F_keep_arg0 (V : Valuation τ sig (Elt F)) : rd (after opsF V) main_arg0 = rd V main_arg0 := by
  simp only [opsF, TRef.binary, TRef.nullary, TRef.quaternary, TRef.ternary, TRef.unary, TRef.toBuf, TRef.ofBuf, cast_eq]; after_results_simp <;> rfl

theorem F_keep_arg1 (V : Valuation τ sig (Elt F)) : rd (after opsF V) main_arg1 = rd V main_arg1 := by
  simp only [opsF, TRef.binary, TRef.nullary, TRef.quaternary, TRef.ternary, TRef.unary, TRef.toBuf, TRef.ofBuf, cast_eq]; after_results_simp <;> rfl

theorem F_keep_arg2 (V : Valuation τ sig (Elt F)) : rd (after opsF V) main_arg2 = rd V main_arg2 := by
  simp only [opsF, TRef.binary, TRef.nullary, TRef.quaternary, TRef.ternary, TRef.unary, TRef.toBuf, TRef.ofBuf, cast_eq]; after_results_simp <;> rfl

theorem F_keep_arg3 (V : Valuation τ sig (Elt F)) : rd (after opsF V) main_arg3 = rd V main_arg3 := by
  simp only [opsF, TRef.binary, TRef.nullary, TRef.quaternary, TRef.ternary, TRef.unary, TRef.toBuf, TRef.ofBuf, cast_eq]; after_results_simp <;> rfl

theorem F_keep_arg4 (V : Valuation τ sig (Elt F)) : rd (after opsF V) main_arg4 = rd V main_arg4 := by
  simp only [opsF, TRef.binary, TRef.nullary, TRef.quaternary, TRef.ternary, TRef.unary, TRef.toBuf, TRef.ofBuf, cast_eq]; after_results_simp <;> rfl

theorem F_keep_arg5 (V : Valuation τ sig (Elt F)) : rd (after opsF V) main_arg5 = rd V main_arg5 := by
  simp only [opsF, TRef.binary, TRef.nullary, TRef.quaternary, TRef.ternary, TRef.unary, TRef.toBuf, TRef.ofBuf, cast_eq]; after_results_simp <;> rfl

theorem F_keep_arg6 (V : Valuation τ sig (Elt F)) : rd (after opsF V) main_arg6 = rd V main_arg6 := by
  simp only [opsF, TRef.binary, TRef.nullary, TRef.quaternary, TRef.ternary, TRef.unary, TRef.toBuf, TRef.ofBuf, cast_eq]; after_results_simp <;> rfl

theorem F_keep_arg7 (V : Valuation τ sig (Elt F)) : rd (after opsF V) main_arg7 = rd V main_arg7 := by
  simp only [opsF, TRef.binary, TRef.nullary, TRef.quaternary, TRef.ternary, TRef.unary, TRef.toBuf, TRef.ofBuf, cast_eq]; after_results_simp <;> rfl

theorem F_keep_arg8 (V : Valuation τ sig (Elt F)) : rd (after opsF V) main_arg8 = rd V main_arg8 := by
  simp only [opsF, TRef.binary, TRef.nullary, TRef.quaternary, TRef.ternary, TRef.unary, TRef.toBuf, TRef.ofBuf, cast_eq]; after_results_simp <;> rfl

theorem F_keep_v33 (V : Valuation τ sig (Elt F)) : rd (after opsF V) main_v33 = rd V main_v33 := by
  simp only [opsF, TRef.binary, TRef.nullary, TRef.quaternary, TRef.ternary, TRef.unary, TRef.toBuf, TRef.ofBuf, cast_eq]; after_results_simp <;> rfl

theorem F_keep_v34 (V : Valuation τ sig (Elt F)) : rd (after opsF V) main_v34 = rd V main_v34 := by
  simp only [opsF, TRef.binary, TRef.nullary, TRef.quaternary, TRef.ternary, TRef.unary, TRef.toBuf, TRef.ofBuf, cast_eq]; after_results_simp <;> rfl

theorem G_keep_arg0 (V : Valuation τ sig (Elt F)) : rd (after opsG V) main_arg0 = rd V main_arg0 := by
  simp only [opsG, TRef.binary, TRef.nullary, TRef.quaternary, TRef.ternary, TRef.unary, TRef.toBuf, TRef.ofBuf, cast_eq]; after_results_simp <;> rfl

theorem G_keep_arg1 (V : Valuation τ sig (Elt F)) : rd (after opsG V) main_arg1 = rd V main_arg1 := by
  simp only [opsG, TRef.binary, TRef.nullary, TRef.quaternary, TRef.ternary, TRef.unary, TRef.toBuf, TRef.ofBuf, cast_eq]; after_results_simp <;> rfl

theorem G_keep_arg2 (V : Valuation τ sig (Elt F)) : rd (after opsG V) main_arg2 = rd V main_arg2 := by
  simp only [opsG, TRef.binary, TRef.nullary, TRef.quaternary, TRef.ternary, TRef.unary, TRef.toBuf, TRef.ofBuf, cast_eq]; after_results_simp <;> rfl

theorem G_keep_arg3 (V : Valuation τ sig (Elt F)) : rd (after opsG V) main_arg3 = rd V main_arg3 := by
  simp only [opsG, TRef.binary, TRef.nullary, TRef.quaternary, TRef.ternary, TRef.unary, TRef.toBuf, TRef.ofBuf, cast_eq]; after_results_simp <;> rfl

theorem G_keep_arg4 (V : Valuation τ sig (Elt F)) : rd (after opsG V) main_arg4 = rd V main_arg4 := by
  simp only [opsG, TRef.binary, TRef.nullary, TRef.quaternary, TRef.ternary, TRef.unary, TRef.toBuf, TRef.ofBuf, cast_eq]; after_results_simp <;> rfl

theorem G_keep_arg5 (V : Valuation τ sig (Elt F)) : rd (after opsG V) main_arg5 = rd V main_arg5 := by
  simp only [opsG, TRef.binary, TRef.nullary, TRef.quaternary, TRef.ternary, TRef.unary, TRef.toBuf, TRef.ofBuf, cast_eq]; after_results_simp <;> rfl

theorem G_keep_arg6 (V : Valuation τ sig (Elt F)) : rd (after opsG V) main_arg6 = rd V main_arg6 := by
  simp only [opsG, TRef.binary, TRef.nullary, TRef.quaternary, TRef.ternary, TRef.unary, TRef.toBuf, TRef.ofBuf, cast_eq]; after_results_simp <;> rfl

theorem G_keep_arg7 (V : Valuation τ sig (Elt F)) : rd (after opsG V) main_arg7 = rd V main_arg7 := by
  simp only [opsG, TRef.binary, TRef.nullary, TRef.quaternary, TRef.ternary, TRef.unary, TRef.toBuf, TRef.ofBuf, cast_eq]; after_results_simp <;> rfl

theorem G_keep_arg8 (V : Valuation τ sig (Elt F)) : rd (after opsG V) main_arg8 = rd V main_arg8 := by
  simp only [opsG, TRef.binary, TRef.nullary, TRef.quaternary, TRef.ternary, TRef.unary, TRef.toBuf, TRef.ofBuf, cast_eq]; after_results_simp <;> rfl

theorem G_keep_v33 (V : Valuation τ sig (Elt F)) : rd (after opsG V) main_v33 = rd V main_v33 := by
  simp only [opsG, TRef.binary, TRef.nullary, TRef.quaternary, TRef.ternary, TRef.unary, TRef.toBuf, TRef.ofBuf, cast_eq]; after_results_simp <;> rfl

theorem G_keep_v47 (V : Valuation τ sig (Elt F)) : rd (after opsG V) main_v47 = rd V main_v47 := by
  simp only [opsG, TRef.binary, TRef.nullary, TRef.quaternary, TRef.ternary, TRef.unary, TRef.toBuf, TRef.ofBuf, cast_eq]; after_results_simp <;> rfl

theorem G_keep_v45 (V : Valuation τ sig (Elt F)) : rd (after opsG V) main_v45 = rd V main_v45 := by
  simp only [opsG, TRef.binary, TRef.nullary, TRef.quaternary, TRef.ternary, TRef.unary, TRef.toBuf, TRef.ofBuf, cast_eq]; after_results_simp <;> rfl

theorem G_keep_v41 (V : Valuation τ sig (Elt F)) : rd (after opsG V) main_v41 = rd V main_v41 := by
  simp only [opsG, TRef.binary, TRef.nullary, TRef.quaternary, TRef.ternary, TRef.unary, TRef.toBuf, TRef.ofBuf, cast_eq]; after_results_simp <;> rfl

theorem H_keep_arg0 (V : Valuation τ sig (Elt F)) : rd (after opsH V) main_arg0 = rd V main_arg0 := by
  simp only [opsH, TRef.binary, TRef.nullary, TRef.quaternary, TRef.ternary, TRef.unary, TRef.toBuf, TRef.ofBuf, cast_eq]; after_results_simp <;> rfl

theorem H_keep_arg1 (V : Valuation τ sig (Elt F)) : rd (after opsH V) main_arg1 = rd V main_arg1 := by
  simp only [opsH, TRef.binary, TRef.nullary, TRef.quaternary, TRef.ternary, TRef.unary, TRef.toBuf, TRef.ofBuf, cast_eq]; after_results_simp <;> rfl

theorem H_keep_arg2 (V : Valuation τ sig (Elt F)) : rd (after opsH V) main_arg2 = rd V main_arg2 := by
  simp only [opsH, TRef.binary, TRef.nullary, TRef.quaternary, TRef.ternary, TRef.unary, TRef.toBuf, TRef.ofBuf, cast_eq]; after_results_simp <;> rfl

theorem H_keep_arg3 (V : Valuation τ sig (Elt F)) : rd (after opsH V) main_arg3 = rd V main_arg3 := by
  simp only [opsH, TRef.binary, TRef.nullary, TRef.quaternary, TRef.ternary, TRef.unary, TRef.toBuf, TRef.ofBuf, cast_eq]; after_results_simp <;> rfl

theorem H_keep_arg4 (V : Valuation τ sig (Elt F)) : rd (after opsH V) main_arg4 = rd V main_arg4 := by
  simp only [opsH, TRef.binary, TRef.nullary, TRef.quaternary, TRef.ternary, TRef.unary, TRef.toBuf, TRef.ofBuf, cast_eq]; after_results_simp <;> rfl

theorem H_keep_arg5 (V : Valuation τ sig (Elt F)) : rd (after opsH V) main_arg5 = rd V main_arg5 := by
  simp only [opsH, TRef.binary, TRef.nullary, TRef.quaternary, TRef.ternary, TRef.unary, TRef.toBuf, TRef.ofBuf, cast_eq]; after_results_simp <;> rfl

theorem H_keep_arg6 (V : Valuation τ sig (Elt F)) : rd (after opsH V) main_arg6 = rd V main_arg6 := by
  simp only [opsH, TRef.binary, TRef.nullary, TRef.quaternary, TRef.ternary, TRef.unary, TRef.toBuf, TRef.ofBuf, cast_eq]; after_results_simp <;> rfl

theorem H_keep_arg7 (V : Valuation τ sig (Elt F)) : rd (after opsH V) main_arg7 = rd V main_arg7 := by
  simp only [opsH, TRef.binary, TRef.nullary, TRef.quaternary, TRef.ternary, TRef.unary, TRef.toBuf, TRef.ofBuf, cast_eq]; after_results_simp <;> rfl

theorem H_keep_arg8 (V : Valuation τ sig (Elt F)) : rd (after opsH V) main_arg8 = rd V main_arg8 := by
  simp only [opsH, TRef.binary, TRef.nullary, TRef.quaternary, TRef.ternary, TRef.unary, TRef.toBuf, TRef.ofBuf, cast_eq]; after_results_simp <;> rfl

theorem H_keep_v47 (V : Valuation τ sig (Elt F)) : rd (after opsH V) main_v47 = rd V main_v47 := by
  simp only [opsH, TRef.binary, TRef.nullary, TRef.quaternary, TRef.ternary, TRef.unary, TRef.toBuf, TRef.ofBuf, cast_eq]; after_results_simp <;> rfl

theorem H_keep_v45 (V : Valuation τ sig (Elt F)) : rd (after opsH V) main_v45 = rd V main_v45 := by
  simp only [opsH, TRef.binary, TRef.nullary, TRef.quaternary, TRef.ternary, TRef.unary, TRef.toBuf, TRef.ofBuf, cast_eq]; after_results_simp <;> rfl

theorem H_keep_v41 (V : Valuation τ sig (Elt F)) : rd (after opsH V) main_v41 = rd V main_v41 := by
  simp only [opsH, TRef.binary, TRef.nullary, TRef.quaternary, TRef.ternary, TRef.unary, TRef.toBuf, TRef.ofBuf, cast_eq]; after_results_simp <;> rfl

theorem H_keep_v58 (V : Valuation τ sig (Elt F)) : rd (after opsH V) main_v58 = rd V main_v58 := by
  simp only [opsH, TRef.binary, TRef.nullary, TRef.quaternary, TRef.ternary, TRef.unary, TRef.toBuf, TRef.ofBuf, cast_eq]; after_results_simp <;> rfl

/-- The latent as a function of the contents at the launch. -/
abbrev zOf (V : Valuation τ sig (Elt F)) : Arr F S64x256x16 :=
  latent (act2 (pre2 (act1 (pre1 (joined (rd V main_arg0) (rd V main_arg1)) (rd V main_arg2) (rd V main_arg3))) (rd V main_arg4) (rd V main_arg5)))
    (rd V main_arg6) (rd V main_arg7)

/-- The codes as a function of the contents at the launch. -/
abbrev codesOf (V : Valuation τ sig (Elt F)) : IVec S16384 32 := codes (products (zOf V) (rd V main_arg8))

/-- The quantised latent as a function of the contents at the launch. -/
abbrev quantOf (V : Valuation τ sig (Elt F)) : Arr F S64x256x16 := quantised (oneHot F (codesOf V)) (rd V main_arg8)

/-- The straight-through latent at the end. -/
theorem read_v47 (V : Valuation τ sig (Elt F)) : rd (after ops V) main_v47 = passed (zOf V) (quantOf V) := by
  rw [ops, after_two, after_two, after_two, after_two, after_two, after_two, after_two]
  rw [H_keep_v47, G_keep_v47, F_v47, E_keep_v20, D_keep_v20, E_v36, D_v33, C_v20, B_v16, A_v8, A_keep_arg4, A_keep_arg5, B_keep_arg6, A_keep_arg6, B_keep_arg7, A_keep_arg7, D_keep_arg8, C_keep_arg8, B_keep_arg8, A_keep_arg8]

/-- The first loss at the end. -/
theorem read_v45 (V : Valuation τ sig (Elt F)) : rd (after ops V) main_v45 = meanSq (zOf V) (quantOf V) := by
  rw [ops, after_two, after_two, after_two, after_two, after_two, after_two, after_two]
  rw [H_keep_v45, G_keep_v45, F_v45, E_keep_v20, D_keep_v20, E_v36, D_v33, C_v20, B_v16, A_v8, A_keep_arg4, A_keep_arg5, B_keep_arg6, A_keep_arg6, B_keep_arg7, A_keep_arg7, D_keep_arg8, C_keep_arg8, B_keep_arg8, A_keep_arg8]

/-- The second loss at the end. -/
theorem read_v41 (V : Valuation τ sig (Elt F)) : rd (after ops V) main_v41 = quarter (meanSq (zOf V) (quantOf V)) := by
  rw [ops, after_two, after_two, after_two, after_two, after_two, after_two, after_two]
  rw [H_keep_v41, G_keep_v41, F_v41, E_keep_v20, D_keep_v20, E_v36, D_v33, C_v20, B_v16, A_v8, A_keep_arg4, A_keep_arg5, B_keep_arg6, A_keep_arg6, B_keep_arg7, A_keep_arg7, D_keep_arg8, C_keep_arg8, B_keep_arg8, A_keep_arg8]

/-- The perplexity at the end. -/
theorem read_v58 (V : Valuation τ sig (Elt F)) : rd (after ops V) main_v58 = perplexity (usage (oneHot F (codesOf V))) := by
  rw [ops, after_two, after_two, after_two, after_two, after_two, after_two, after_two]
  rw [H_keep_v58, G_v58, F_keep_v34, E_v34, D_v33, C_v20, B_v16, A_v8, A_keep_arg4, A_keep_arg5, B_keep_arg6, A_keep_arg6, B_keep_arg7, A_keep_arg7, C_keep_arg8, B_keep_arg8, A_keep_arg8]

/-- The codes at the end. -/
theorem read_v59 (V : Valuation τ sig (Elt F)) : rd (after ops V) main_v59 = codeColumn (codesOf V) := by
  rw [ops, after_two, after_two, after_two, after_two, after_two, after_two, after_two]
  rw [H_v59, G_keep_v33, F_keep_v33, E_keep_v33, D_v33, C_v20, B_v16, A_v8, A_keep_arg4, A_keep_arg5, B_keep_arg6, A_keep_arg6, B_keep_arg7, A_keep_arg7, C_keep_arg8, B_keep_arg8, A_keep_arg8]

/-- An argument is unchanged at the end. -/
theorem read_arg0 (V : Valuation τ sig (Elt F)) : rd (after ops V) main_arg0 = rd V main_arg0 := by
  rw [ops, after_two, after_two, after_two, after_two, after_two, after_two, after_two]
  rw [H_keep_arg0, G_keep_arg0, F_keep_arg0, E_keep_arg0, D_keep_arg0, C_keep_arg0, B_keep_arg0, A_keep_arg0]

/-- An argument is unchanged at the end. -/
theorem read_arg1 (V : Valuation τ sig (Elt F)) : rd (after ops V) main_arg1 = rd V main_arg1 := by
  rw [ops, after_two, after_two, after_two, after_two, after_two, after_two, after_two]
  rw [H_keep_arg1, G_keep_arg1, F_keep_arg1, E_keep_arg1, D_keep_arg1, C_keep_arg1, B_keep_arg1, A_keep_arg1]

/-- An argument is unchanged at the end. -/
theorem read_arg2 (V : Valuation τ sig (Elt F)) : rd (after ops V) main_arg2 = rd V main_arg2 := by
  rw [ops, after_two, after_two, after_two, after_two, after_two, after_two, after_two]
  rw [H_keep_arg2, G_keep_arg2, F_keep_arg2, E_keep_arg2, D_keep_arg2, C_keep_arg2, B_keep_arg2, A_keep_arg2]

/-- An argument is unchanged at the end. -/
theorem read_arg3 (V : Valuation τ sig (Elt F)) : rd (after ops V) main_arg3 = rd V main_arg3 := by
  rw [ops, after_two, after_two, after_two, after_two, after_two, after_two, after_two]
  rw [H_keep_arg3, G_keep_arg3, F_keep_arg3, E_keep_arg3, D_keep_arg3, C_keep_arg3, B_keep_arg3, A_keep_arg3]

/-- An argument is unchanged at the end. -/
theorem read_arg4 (V : Valuation τ sig (Elt F)) : rd (after ops V) main_arg4 = rd V main_arg4 := by
  rw [ops, after_two, after_two, after_two, after_two, after_two, after_two, after_two]
  rw [H_keep_arg4, G_keep_arg4, F_keep_arg4, E_keep_arg4, D_keep_arg4, C_keep_arg4, B_keep_arg4, A_keep_arg4]

/-- An argument is unchanged at the end. -/
theorem read_arg5 (V : Valuation τ sig (Elt F)) : rd (after ops V) main_arg5 = rd V main_arg5 := by
  rw [ops, after_two, after_two, after_two, after_two, after_two, after_two, after_two]
  rw [H_keep_arg5, G_keep_arg5, F_keep_arg5, E_keep_arg5, D_keep_arg5, C_keep_arg5, B_keep_arg5, A_keep_arg5]

/-- An argument is unchanged at the end. -/
theorem read_arg6 (V : Valuation τ sig (Elt F)) : rd (after ops V) main_arg6 = rd V main_arg6 := by
  rw [ops, after_two, after_two, after_two, after_two, after_two, after_two, after_two]
  rw [H_keep_arg6, G_keep_arg6, F_keep_arg6, E_keep_arg6, D_keep_arg6, C_keep_arg6, B_keep_arg6, A_keep_arg6]

/-- An argument is unchanged at the end. -/
theorem read_arg7 (V : Valuation τ sig (Elt F)) : rd (after ops V) main_arg7 = rd V main_arg7 := by
  rw [ops, after_two, after_two, after_two, after_two, after_two, after_two, after_two]
  rw [H_keep_arg7, G_keep_arg7, F_keep_arg7, E_keep_arg7, D_keep_arg7, C_keep_arg7, B_keep_arg7, A_keep_arg7]

/-- An argument is unchanged at the end. -/
theorem read_arg8 (V : Valuation τ sig (Elt F)) : rd (after ops V) main_arg8 = rd V main_arg8 := by
  rw [ops, after_two, after_two, after_two, after_two, after_two, after_two, after_two]
  rw [H_keep_arg8, G_keep_arg8, F_keep_arg8, E_keep_arg8, D_keep_arg8, C_keep_arg8, B_keep_arg8, A_keep_arg8]

/-- Every weakly fair execution of @main ends with each buffer at what the line of operations leaves there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => List.forall_iff_forall_mem.mp ops_fresh

/-- The reference leaves its arguments unchanged and every counter at zero. -/
theorem quiescent : Cert.quiescent_ReferenceIdeal (hReferenceIdeal := Cert.ReferenceIdeal.Gen.facts) := fun m ρ _ =>
  (θ_run _ _ _).mono (fun r h => ⟨fun c => ⟨(h c main_arg0).trans (read_arg0 _), (h c main_arg1).trans (read_arg1 _), (h c main_arg2).trans (read_arg2 _), (h c main_arg3).trans (read_arg3 _), (h c main_arg4).trans (read_arg4 _), (h c main_arg5).trans (read_arg5 _), (h c main_arg6).trans (read_arg6 _), (h c main_arg7).trans (read_arg7 _), (h c main_arg8).trans (read_arg8 _)⟩,
    sem_eq_zero_of_no_sems (by decide) r.2⟩) (run m ρ)

end Cert.Proof.Ref

end
-- ==== Proof.ReferenceRead.lean ====
/-
  The reference's stages read at an index: each is the row mathematics of Spec.lean.
-/
module

public import proofs.«01_k».proof.Proof.Argmax
public import proofs.«01_k».proof.Proof.ReferenceRun
public import Idealize.ShloMosaic.Lib.Pointwise

@[expose] public section

set_option maxRecDepth 16384

noncomputable section

namespace Cert.Proof.Ref

open Cert.ReferenceIdeal Cert.ReferenceIdeal.Gen Idealize.ShloMosaic

/-- The weights as the reference's arguments hold them. -/
def weights (w1 : Arr Ideal S288x512) (b1 : Arr Ideal S512) (w2 : Arr Ideal S512x256) (b2 : Arr Ideal S256) (w3 : Arr Ideal S256x16)
    (b3 : Arr Ideal S16) (e : Arr Ideal S1024x16) : Spec.Weights where
  w1 i k := w1 (ix2 i k)
  b1 k := b1 (ix1 k)
  w2 i k := w2 (ix2 i k)
  b2 k := b2 (ix1 k)
  w3 i d := w3 (ix2 i d)
  b3 d := b3 (ix1 d)
  book v d := e (ix2 v d)

section Layers
variable (a : Arr Ideal S64x256x32) (c : Arr Ideal S64x256x256) (w1 : Arr Ideal S288x512) (b1 : Arr Ideal S512) (w2 : Arr Ideal S512x256)
  (b2 : Arr Ideal S256) (w3 : Arr Ideal S256x16) (b3 : Arr Ideal S16) (e : Arr Ideal S1024x16)

/-- The first layer at an index. -/
theorem act1_apply (b : Fin 64) (t : Fin 256) (k : Fin 512) :
    act1 (pre1 (joined a c) w1 b1) (ix3 b t k)
      = (weights w1 b1 w2 b2 w3 b3 e).hidden1 (fun i => a (ix3 b t i)) (fun i => c (ix3 b t i)) k := by
  pointwise [act1, pre1, joined, Spec.Weights.hidden1, Spec.elu, Spec.first, weights, Ideal.expm1]

/-- The second layer at an index, from the first layer's rows. -/
theorem act2_apply (h : Arr Ideal S64x256x512) (b : Fin 64) (t : Fin 256) (k : Fin 256) :
    act2 (pre2 h w2 b2) (ix3 b t k)
      = Spec.elu (Spec.affine (fun i => h (ix3 b t i)) (fun i => w2 (ix2 i k)) (b2 (ix1 k))) := by
  pointwise [act2, pre2, Spec.elu, Spec.affine, Ideal.expm1]

/-- The latent at an index, from the second layer's rows. -/
theorem latent_apply (h : Arr Ideal S64x256x256) (b : Fin 64) (t : Fin 256) (d : Fin 16) :
    latent h w3 b3 (ix3 b t d) = Spec.affine (fun i => h (ix3 b t i)) (fun i => w3 (ix2 i d)) (b3 (ix1 d)) := by
  pointwise [latent, Spec.affine]

/-- The latent at an index, from the arguments. -/
theorem z_apply (b : Fin 64) (t : Fin 256) (d : Fin 16) :
    latent (act2 (pre2 (act1 (pre1 (joined a c) w1 b1)) w2 b2)) w3 b3 (ix3 b t d)
      = (weights w1 b1 w2 b2 w3 b3 e).latent (fun i => a (ix3 b t i)) (fun i => c (ix3 b t i)) d := by
  rw [latent_apply]
  simp only [act2_apply, act1_apply a c w1 b1 w2 b2 w3 b3 e]
  rfl

end Layers

/-- A normalised row of the latent. -/
theorem unitLatent_apply (z : Arr Ideal S64x256x16) (b : Fin 64) (t : Fin 256) (d : Fin 16) :
    unitLatent z (ix3 b t d) = Spec.unit (fun i => z (ix3 b t i)) d := by
  pointwise [unitLatent, Spec.unit, Spec.tiny]

/-- A normalised code. -/
theorem unitBook_apply (e : Arr Ideal S1024x16) (v : Fin 1024) (d : Fin 16) :
    unitBook e (ix2 v d) = Spec.unit (fun i => e (ix2 v i)) d := by
  pointwise [unitBook, Spec.unit, Spec.tiny]

/-- A product of a row with a code. -/
theorem products_apply (z : Arr Ideal S64x256x16) (e : Arr Ideal S1024x16) (n : Fin 16384) (v : Fin 1024) :
    products z e (ix2 n v)
      = Spec.score (fun i => z (ix3 (⟨n.val / 256, by omega⟩ : Fin 64) (⟨n.val % 256, by omega⟩ : Fin 256) i)) (fun i => e (ix2 v i)) := by
  pointwise [products, Spec.score]
  simp only [unitLatent_apply, unitBook_apply]

/-- The places' words beside the products. -/
theorem place_apply (n : Fin 16384) (v : Fin 1024) : iotaInDim S16384x1024 32 1 (ix2 n v) = BitVec.ofNat 32 v.val := rfl

/-- The fold's first value. -/
theorem start_apply (i : S_.Idx) : (constant (F := Ideal) S_ .f32 0xFF800000#32 : S_.Idx → EReal) i = ⊥ := Spec.negInf_eq

/-- The fold's first place. -/
theorem start_place (i : S_.Idx) : (constantI S_ 32 0#32) i = 0#32 := rfl

/-- The products' columns are reduced away. -/
theorem rows_of_products : (⟨2, ![16384, 1024]⟩ : Shape).ReducesTo [1] ⟨1, ![16384]⟩ := reducesTo_S16384x1024_S16384_d1

/-- The arg-max of a row is the best place of its products. -/
theorem argReduce_apply (s : Arr Ideal S16384x1024) (n : Fin 16384) :
    (Host.argReduce (F := Ideal) reducer_argmax_f32_i32 s (iotaInDim S16384x1024 32 1) (constant (F := Ideal) S_ .f32 0xFF800000#32)
      (constantI S_ 32 0#32) reducesTo_S16384x1024_S16384_d1 h_S_ (ix1 n)).2 = BitVec.ofNat 32 (Spec.best fun v => s (ix2 n v)).val := by
  have h := Spec.argmax_row s (iotaInDim S16384x1024 32 1) rows_of_products (constant (F := Ideal) S_ .f32 0xFF800000#32)
    (constantI S_ 32 0#32) h_S_ n (place_apply n) start_apply start_place
  exact h

/-- The codes, as the function they are. -/
theorem codes_fun : codes (F := Ideal) = fun s j =>
    (Host.argReduce (F := Ideal) reducer_argmax_f32_i32 s (iotaInDim S16384x1024 32 1) (constant (F := Ideal) S_ .f32 0xFF800000#32)
      (constantI S_ 32 0#32) reducesTo_S16384x1024_S16384_d1 h_S_ j).2 := rfl

/-- The code of a row is the best place of its products. -/
theorem codes_apply (s : Arr Ideal S16384x1024) (n : Fin 16384) :
    codes s (ix1 n) = BitVec.ofNat 32 (Spec.best fun v => s (ix2 n v)).val :=
  (congrFun (congrFun codes_fun s) (ix1 n)).trans (argReduce_apply s n)

/-- A row's one-hot vector, where the row's word is that of a place. -/
theorem oneHot_apply (i : IVec S16384 32) (n : Fin 16384) (k v : Fin 1024) (hk : i (ix1 n) = BitVec.ofNat 32 k.val) :
    oneHot Ideal i (ix2 n v) = Spec.pick k v := by
  pointwise [oneHot]
  rw [hk]
  unfold Spec.pick
  have e : BitVec.ofNat 32 k.val = BitVec.ofNat 32 v.val ↔ v = k := by
    constructor
    · intro h
      have h' := congrArg BitVec.toNat h
      rw [BitVec.toNat_ofNat, BitVec.toNat_ofNat] at h'
      exact Fin.ext (by omega)
    · rintro rfl; rfl
  show (((BitVec.ofBool (BitVec.ofNat 32 k.val == BitVec.ofNat 32 v.val)).toNat : ℝ) : EReal) = _
  by_cases h : v = k
  · rw [if_pos h, beq_iff_eq.2 (e.2 h)]; simp
  · rw [if_neg h, beq_eq_false_iff_ne.2 fun g => h (e.1 g)]; simp

/-- The quantised latent at an index. -/
theorem quantised_apply (o : Arr Ideal S16384x1024) (e : Arr Ideal S1024x16) (b : Fin 64) (t : Fin 256) (d : Fin 16) :
    quantised o e (ix3 b t d) = ∑ v : Fin 1024, o (ix2 (⟨b.val * 256 + t.val, by omega⟩ : Fin 16384) v) * e (ix2 v d) := by
  pointwise [quantised]

/-- The straight-through latent at an index. -/
theorem passed_apply (z q : Arr Ideal S64x256x16) (j : S64x256x16.Idx) : passed z q j = z j + (q j - z j) := by
  pointwise [passed]

/-- The first loss. -/
theorem meanSq_apply (z q : Arr Ideal S64x256x16) (j : S_.Idx) :
    meanSq z q j = Spec.meanOf (∑ b : Fin 64, ∑ t : Fin 256, ∑ d : Fin 16, (q (ix3 b t d) - z (ix3 b t d)) * (q (ix3 b t d) - z (ix3 b t d))) := by
  pointwise [meanSq, Spec.meanOf]

/-- The second loss. -/
theorem quarter_apply (x : Arr Ideal S_) (j : S_.Idx) : quarter x j = Spec.quarterOf (x j) := by
  pointwise [quarter, Spec.quarterOf]

/-- A frequency. -/
theorem usage_apply (o : Arr Ideal S16384x1024) (t : Fin 256) (v : Fin 1024) :
    usage o (ix2 t v)
      = Ideal.div (∑ b : Fin 64, o (ix2 (⟨b.val * 256 + t.val, by omega⟩ : Fin 16384) v)) (Ideal.ofBits .f32 0x42800000#32) := by
  pointwise [usage]

/-- The perplexity. -/
theorem perplexity_apply (p : Arr Ideal S256x1024) (j : S_.Idx) :
    perplexity p j = Ideal.exp (-∑ t : Fin 256, ∑ v : Fin 1024, Spec.plog (p (ix2 t v))) := by
  pointwise [perplexity, Spec.plog]

/-- The codes as returned, at an index. -/
theorem codeColumn_apply (i : IVec S16384 32) (b : Fin 64) (t : Fin 256) (u : Fin 1) :
    codeColumn i (ix3 b t u) = i (ix1 (⟨b.val * 256 + t.val, by omega⟩ : Fin 16384)) := by
  pointwise [codeColumn]

end Cert.Proof.Ref

end
-- ==== Proof.ReferenceResult.lean ====
/-
  The reference's five results, from its arguments.
-/
module

public import proofs.«01_k».proof.Proof.ReferenceRead
public import proofs.«01_k».proof.Proof.Totals

@[expose] public section

set_option maxRecDepth 16384

noncomputable section

namespace Cert.Proof.Ref

open Cert.ReferenceIdeal Cert.ReferenceIdeal.Gen Idealize.ShloMosaic Idealize.ShloMosaic.StableHlo

variable (V : Valuation τ sig (Elt Ideal))

/-- The weights in the reference's arguments. -/
def wts : Spec.Weights :=
  weights (rd V main_arg2) (rd V main_arg3) (rd V main_arg4) (rd V main_arg5) (rd V main_arg6) (rd V main_arg7) (rd V main_arg8)

/-- The action at a step of a sequence. -/
def act (b : Fin 64) (t : Fin 256) (i : Fin 32) : EReal := rd V main_arg0 (ix3 b t i)

/-- The condition at a step of a sequence. -/
def cond (b : Fin 64) (t : Fin 256) (i : Fin 256) : EReal := rd V main_arg1 (ix3 b t i)

/-- The latent. -/
theorem z_eq (b : Fin 64) (t : Fin 256) (d : Fin 16) : zOf V (ix3 b t d) = (wts V).latent (act V b t) (cond V b t) d :=
  z_apply (rd V main_arg0) (rd V main_arg1) (rd V main_arg2) (rd V main_arg3) (rd V main_arg4) (rd V main_arg5) (rd V main_arg6)
    (rd V main_arg7) (rd V main_arg8) b t d

/-- The code of a row, as a word. -/
theorem code_eq (b : Fin 64) (t : Fin 256) :
    codesOf V (ix1 (⟨b.val * 256 + t.val, by omega⟩ : Fin 16384)) = BitVec.ofNat 32 ((wts V).code (act V b t) (cond V b t)).val := by
  have hb : (⟨(b.val * 256 + t.val) / 256, by omega⟩ : Fin 64) = b := Fin.ext (by show (b.val * 256 + t.val) / 256 = b.val; omega)
  have ht : (⟨(b.val * 256 + t.val) % 256, by omega⟩ : Fin 256) = t := Fin.ext (by show (b.val * 256 + t.val) % 256 = t.val; omega)
  refine (codes_apply (products (zOf V) (rd V main_arg8)) ⟨b.val * 256 + t.val, by omega⟩).trans ?_
  simp only [products_apply, hb, ht, z_eq]
  rfl

/-- The one-hot row of a code. -/
theorem hot_eq (b : Fin 64) (t : Fin 256) (v : Fin 1024) :
    oneHot Ideal (codesOf V) (ix2 (⟨b.val * 256 + t.val, by omega⟩ : Fin 16384) v)
      = Spec.pick ((wts V).code (act V b t) (cond V b t)) v :=
  oneHot_apply (codesOf V) _ _ v (code_eq V b t)

/-- The quantised latent. -/
theorem quant_eq (b : Fin 64) (t : Fin 256) (d : Fin 16) : quantOf V (ix3 b t d) = (wts V).quant (act V b t) (cond V b t) d := by
  refine (quantised_apply (oneHot Ideal (codesOf V)) (rd V main_arg8) b t d).trans ?_
  simp only [hot_eq]
  rfl

/-- Result 1. -/
theorem out0 (b : Fin 64) (t : Fin 256) (d : Fin 16) :
    passed (zOf V) (quantOf V) (ix3 b t d) = (wts V).passed (act V b t) (cond V b t) d := by
  rw [passed_apply, z_eq, quant_eq]
  rfl

/-- Result 2. -/
theorem out1 (b : Fin 64) (t : Fin 256) (u : Fin 1) :
    codeColumn (codesOf V) (ix3 b t u) = BitVec.ofNat 32 ((wts V).code (act V b t) (cond V b t)).val :=
  (codeColumn_apply (codesOf V) b t u).trans (code_eq V b t)

/-- Result 3. -/
theorem out2 (j : S_.Idx) : meanSq (zOf V) (quantOf V) j = Spec.meanOf (Spec.totalErr (wts V) (act V) (cond V)) := by
  rw [meanSq_apply]
  simp only [z_eq, quant_eq]
  rfl

/-- Result 4. -/
theorem out3 (j : S_.Idx) :
    quarter (meanSq (zOf V) (quantOf V)) j = Spec.quarterOf (Spec.meanOf (Spec.totalErr (wts V) (act V) (cond V))) := by
  rw [quarter_apply, out2]

/-- Result 5. -/
theorem out4 (j : S_.Idx) : perplexity (usage (oneHot Ideal (codesOf V))) j = Spec.perplexityOf (wts V) (act V) (cond V) := by
  rw [perplexity_apply]
  simp only [usage_apply, hot_eq]
  rfl

end Cert.Proof.Ref

end
-- ==== Proof.Algebraic.lean ====
/-
  The kernel's five results are the reference's, from equal arguments.
-/
module

public import proofs.«01_k».proof.Defs
public import proofs.«01_k».proof.Proof.KernelRun
public import proofs.«01_k».proof.Proof.ReferenceResult

@[expose] public section

set_option maxRecDepth 16384

noncomputable section

namespace Cert.Proof

open Idealize.ShloMosaic Idealize.ShloMosaic.StableHlo Idealize.SL.Sem

/-- The nine arguments agree on a device. -/
def Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- The two programs' weights are the same. -/
theorem wts_eq (h : Agree m m' c) : Ref.wts (launchContents m' c) = Kern.wts m c := by
  obtain ⟨-, -, h2, h3, h4, h5, h6, h7, h8⟩ := h
  unfold Ref.wts Ref.weights Kern.wts
  congr 1
  · funext i k; exact congrFun h2 (ix2 i k)
  · funext k; exact congrFun h3 (ix1 k)
  · funext i k; exact congrFun h4 (ix2 i k)
  · funext k; exact congrFun h5 (ix1 k)
  · funext i k; exact congrFun h6 (ix2 i k)
  · funext k; exact congrFun h7 (ix1 k)
  · funext i k; exact congrFun h8 (ix2 i k)

/-- The two programs' actions are the same. -/
theorem act_eq (h : Agree m m' c) : Ref.act (launchContents m' c) = Kern.act m c := by
  funext b t i; exact congrFun h.1 (ix3 b t i)

/-- The two programs' conditions are the same. -/
theorem cond_eq (h : Agree m m' c) : Ref.cond (launchContents m' c) = Kern.cond m c := by
  funext b t i; exact congrFun h.2.1 (ix3 b t i)

/-- Result 1 is the same. -/
theorem res0_eq (h : Agree m m' c) :
    Ref.passed (Ref.zOf (launchContents m' c)) (Ref.quantOf (launchContents m' c)) = Kern.res0 m c := by
  funext j
  idx_vars j
  refine (Ref.out0 _ j0 j1 j2).trans ?_
  rw [wts_eq h, act_eq h, cond_eq h]
  rfl

/-- Result 2 is the same. -/
theorem res1_eq (h : Agree m m' c) : Ref.codeColumn (Ref.codesOf (launchContents m' c)) = Kern.res1 m c := by
  funext j
  idx_vars j
  refine (Ref.out1 _ j0 j1 j2).trans ?_
  rw [wts_eq h, act_eq h, cond_eq h]
  rfl

/-- Result 3 is the same. -/
theorem res2_eq (h : Agree m m' c) :
    Ref.meanSq (Ref.zOf (launchContents m' c)) (Ref.quantOf (launchContents m' c)) = Kern.res2 m c := by
  funext j
  refine (Ref.out2 _ j).trans ?_
  rw [wts_eq h, act_eq h, cond_eq h]
  rfl

/-- Result 4 is the same. -/
theorem res3_eq (h : Agree m m' c) :
    Ref.quarter (Ref.meanSq (Ref.zOf (launchContents m' c)) (Ref.quantOf (launchContents m' c))) = Kern.res3 m c := by
  funext j
  refine (Ref.out3 _ j).trans ?_
  rw [wts_eq h, act_eq h, cond_eq h]
  rfl

/-- Result 5 is the same. -/
theorem res4_eq (h : Agree m m' c) :
    Ref.perplexity (Ref.usage (Ref.oneHot Ideal (Ref.codesOf (launchContents m' c)))) = Kern.res4 m c := by
  funext j
  refine (Ref.out4 _ j).trans ?_
  rw [wts_eq h, act_eq h, cond_eq h]
  rfl

/-- From equal arguments the kernel and the reference end with equal results, at exact arithmetic. -/
theorem algebraic : Cert.algebraic_KernelIdeal_ReferenceIdeal (hKernelIdeal := Cert.KernelIdeal.Gen.facts)
    (hReferenceIdeal := Cert.ReferenceIdeal.Gen.facts) := fun m g m' g' _ hagree =>
  ⟨Kern.res0 m, Kern.res1 m, Kern.res2 m, Kern.res3 m, Kern.res4 m, Kern.run m g,
    (θ_run _ _ _).mono (fun r h c =>
      ⟨(h c _).trans ((Ref.read_v47 _).trans (res0_eq (hagree c))), (h c _).trans ((Ref.read_v59 _).trans (res1_eq (hagree c))),
        (h c _).trans ((Ref.read_v45 _).trans (res2_eq (hagree c))), (h c _).trans ((Ref.read_v41 _).trans (res3_eq (hagree c))),
        (h c _).trans ((Ref.read_v58 _).trans (res4_eq (hagree c))),
        (h c _).trans (Ref.read_arg0 _), (h c _).trans (Ref.read_arg1 _), (h c _).trans (Ref.read_arg2 _),
        (h c _).trans (Ref.read_arg3 _), (h c _).trans (Ref.read_arg4 _), (h c _).trans (Ref.read_arg5 _),
        (h c _).trans (Ref.read_arg6 _), (h c _).trans (Ref.read_arg7 _), (h c _).trans (Ref.read_arg8 _)⟩) (Ref.run m' g')⟩

end Cert.Proof

end
-- ==== Proof.lean ====
/-
  Everything that is claimed: the three frames, `preserves`, and the kernel's five results equal to the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Algebraic

@[expose] public section

noncomputable section

namespace Cert.Proof

/-- The claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Ref.quiescent, trivial, algebraic⟩

end Cert.Proof

end
